-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S112x1024x768 : Shape := ⟨3, ![112, 1024, 768]⟩
abbrev S112x1024 : Shape := ⟨2, ![112, 1024]⟩
abbrev S112x768 : Shape := ⟨2, ![112, 768]⟩
abbrev S112x3x768 : Shape := ⟨3, ![112, 3, 768]⟩
abbrev S112x8x3x768 : Shape := ⟨4, ![112, 8, 3, 768]⟩
abbrev S8x1024 : Shape := ⟨2, ![8, 1024]⟩
abbrev S8x768 : Shape := ⟨2, ![8, 768]⟩
abbrev S1x1024x768 : Shape := ⟨3, ![1, 1024, 768]⟩
abbrev S1x3x768 : Shape := ⟨3, ![1, 3, 768]⟩
abbrev S1x8x3x768 : Shape := ⟨4, ![1, 8, 3, 768]⟩
abbrev S3x8x768 : Shape := ⟨3, ![3, 8, 768]⟩
abbrev S768 : Shape := ⟨1, ![768]⟩
abbrev S1x768 : Shape := ⟨2, ![1, 768]⟩
abbrev S8x128 : Shape := ⟨2, ![8, 128]⟩
abbrev S128 : Shape := ⟨1, ![128]⟩
abbrev S1x128 : Shape := ⟨2, ![1, 128]⟩
abbrev S128x128 : Shape := ⟨2, ![128, 128]⟩
abbrev S128x1 : Shape := ⟨2, ![128, 1]⟩
abbrev S1x32x768 : Shape := ⟨3, ![1, 32, 768]⟩
abbrev S32x768 : Shape := ⟨2, ![32, 768]⟩
abbrev S32x1 : Shape := ⟨2, ![32, 1]⟩
abbrev S32 : Shape := ⟨1, ![32]⟩
abbrev S1x8x768 : Shape := ⟨3, ![1, 8, 768]⟩
abbrev S4x8x768 : Shape := ⟨3, ![4, 8, 768]⟩
abbrev S3x768 : Shape := ⟨2, ![3, 768]⟩
abbrev S1x1x3x768 : Shape := ⟨4, ![1, 1, 3, 768]⟩
abbrev S8x3x768 : Shape := ⟨3, ![8, 3, 768]⟩

abbrev nBuf : Space → Nat
  | .hbm => 11
  | .vmem => 23
  | .smem => 0
  | _ => 0

abbrev bufTy : (tb : Table) → Fin (tcTables nBuf tb) → BufTy
  | .hbm, ⟨0, _⟩ => ⟨S112x1024x768, .fp8e4m3⟩
  | .hbm, ⟨1, _⟩ => ⟨S112x1024, .f32⟩
  | .hbm, ⟨2, _⟩ => ⟨S112x1024x768, .bf16⟩
  | .hbm, ⟨3, _⟩ => ⟨S112x1024x768, .fp8e5m2⟩
  | .hbm, ⟨4, _⟩ => ⟨S112x1024, .f32⟩
  | .hbm, ⟨5, _⟩ => ⟨S112x1024x768, .fp8e5m2⟩
  | .hbm, ⟨6, _⟩ => ⟨S112x1024, .f32⟩
  | .hbm, ⟨7, _⟩ => ⟨S112x768, .f32⟩
  | .hbm, ⟨8, _⟩ => ⟨S112x1024x768, .bf16⟩
  | .hbm, ⟨9, _⟩ => ⟨S112x3x768, .f32⟩
  | .hbm, ⟨10, _⟩ => ⟨S112x8x3x768, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x768, .f32⟩
  | .local _ .vmem, ⟨7, _⟩ => ⟨S8x768, .f32⟩
  | .local _ .vmem, ⟨8, _⟩ => ⟨S1x1024x768, .fp8e4m3⟩
  | .local _ .vmem, ⟨9, _⟩ => ⟨S1x1024x768, .fp8e4m3⟩
  | .local _ .vmem, ⟨10, _⟩ => ⟨S1x1024x768, .bf16⟩
  | .local _ .vmem, ⟨11, _⟩ => ⟨S1x1024x768, .bf16⟩
  | .local _ .vmem, ⟨12, _⟩ => ⟨S1x1024x768, .fp8e5m2⟩
  | .local _ .vmem, ⟨13, _⟩ => ⟨S1x1024x768, .fp8e5m2⟩
  | .local _ .vmem, ⟨14, _⟩ => ⟨S1x1024x768, .fp8e5m2⟩
  | .local _ .vmem, ⟨15, _⟩ => ⟨S1x1024x768, .fp8e5m2⟩
  | .local _ .vmem, ⟨16, _⟩ => ⟨S1x1024x768, .bf16⟩
  | .local _ .vmem, ⟨17, _⟩ => ⟨S1x1024x768, .bf16⟩
  | .local _ .vmem, ⟨18, _⟩ => ⟨S1x3x768, .f32⟩
  | .local _ .vmem, ⟨19, _⟩ => ⟨S1x3x768, .f32⟩
  | .local _ .vmem, ⟨20, _⟩ => ⟨S1x8x3x768, .f32⟩
  | .local _ .vmem, ⟨21, _⟩ => ⟨S1x8x3x768, .f32⟩
  | .local _ .vmem, ⟨22, _⟩ => ⟨S3x8x768, .f32⟩
  | _, _ => ⟨S112x1024x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![112], ![false]⟩

@[reducible] def k0_t1_loop : Scf.Loop 32 :=
  let c0_i32_6 : BitVec 32 := 0#32
  let c8_i32_7 : BitVec 32 := 8#32
  let v20 : BitVec 32 := Scalar.addi c0_i32_6 c8_i32_7
  let c1_i32_8 : BitVec 32 := 1#32
  ⟨c0_i32_6, v20, c1_i32_8⟩
def k0_mult1 (k0_t1 : Fin k0_t1_loop.trips) : BitVec 32 :=
  let c0_i32_6 : BitVec 32 := 0#32
  let c1_i32_8 : BitVec 32 := 1#32
  let arg13 : BitVec 32 := Scf.iv c0_i32_6 c1_i32_8 k0_t1
  let c128_i32 : BitVec 32 := 128#32
  let v27 : BitVec 32 := Scalar.muli arg13 c128_i32
  v27
def k0_off1 (k0_t1 : Fin k0_t1_loop.trips) : Fin 2 → Nat :=
  let c0_18 : Index := 0#32
  let c0_i32_6 : BitVec 32 := 0#32
  let c1_i32_8 : BitVec 32 := 1#32
  let arg13 : BitVec 32 := Scf.iv c0_i32_6 c1_i32_8 k0_t1
  let c128_i32 : BitVec 32 := 128#32
  let v27 : BitVec 32 := Scalar.muli arg13 c128_i32
  let v28 : BitVec 32 := v27
  let v29 : Index := Scalar.indexCast v28
  ![0, v29.toNat]
def k0_mult2 (k0_t1 : Fin k0_t1_loop.trips) : BitVec 32 :=
  let c0_i32_6 : BitVec 32 := 0#32
  let c1_i32_8 : BitVec 32 := 1#32
  let arg13 : BitVec 32 := Scf.iv c0_i32_6 c1_i32_8 k0_t1
  let c128_i32_21 : BitVec 32 := 128#32
  let v42 : BitVec 32 := Scalar.muli arg13 c128_i32_21
  v42
def k0_mult3 (k0_t1 : Fin k0_t1_loop.trips) : BitVec 32 :=
  let c0_i32_6 : BitVec 32 := 0#32
  let c1_i32_8 : BitVec 32 := 1#32
  let arg13 : BitVec 32 := Scf.iv c0_i32_6 c1_i32_8 k0_t1
  let c128_i32_25 : BitVec 32 := 128#32
  let v57 : BitVec 32 := Scalar.muli arg13 c128_i32_25
  v57
def k0_mult4 (k0_t1 : Fin k0_t1_loop.trips) : BitVec 32 :=
  let c0_i32_6 : BitVec 32 := 0#32
  let c1_i32_8 : BitVec 32 := 1#32
  let arg13 : BitVec 32 := Scf.iv c0_i32_6 c1_i32_8 k0_t1
  let c128_i32_33 : BitVec 32 := 128#32
  let v76 : BitVec 32 := Scalar.muli arg13 c128_i32_33
  let c0_i32_34 : BitVec 32 := 0#32
  let v77 : BitVec 32 := Scalar.addi v76 c0_i32_34
  v77
def k0_off2 (k0_t1 : Fin k0_t1_loop.trips) (c0_i32_34 : BitVec 32) : Fin 3 → Nat :=
  let c0_35 : Index := 0#32
  let c0_i32_6 : BitVec 32 := 0#32
  let c1_i32_8 : BitVec 32 := 1#32
  let arg13 : BitVec 32 := Scf.iv c0_i32_6 c1_i32_8 k0_t1
  let c128_i32_33 : BitVec 32 := 128#32
  let v76 : BitVec 32 := Scalar.muli arg13 c128_i32_33
  let v77 : BitVec 32 := Scalar.addi v76 c0_i32_34
  let v78 : BitVec 32 := v77
  let v79 : Index := Scalar.indexCast v78
  let c0_36 : Index := 0#32
  ![0, v79.toNat, 0]
def k0_mult5 (k0_t1 : Fin k0_t1_loop.trips) : BitVec 32 :=
  let c0_i32_6 : BitVec 32 := 0#32
  let c1_i32_8 : BitVec 32 := 1#32
  let arg13 : BitVec 32 := Scf.iv c0_i32_6 c1_i32_8 k0_t1
  let c128_i32_73 : BitVec 32 := 128#32
  let v170 : BitVec 32 := Scalar.muli arg13 c128_i32_73
  let c32_i32 : BitVec 32 := 32#32
  let v171 : BitVec 32 := Scalar.addi v170 c32_i32
  v171
def k0_mult6 (k0_t1 : Fin k0_t1_loop.trips) : BitVec 32 :=
  let c0_i32_6 : BitVec 32 := 0#32
  let c1_i32_8 : BitVec 32 := 1#32
  let arg13 : BitVec 32 := Scf.iv c0_i32_6 c1_i32_8 k0_t1
  let c128_i32_114 : BitVec 32 := 128#32
  let v264 : BitVec 32 := Scalar.muli arg13 c128_i32_114
  let c64_i32 : BitVec 32 := 64#32
  let v265 : BitVec 32 := Scalar.addi v264 c64_i32
  v265
def k0_mult7 (k0_t1 : Fin k0_t1_loop.trips) : BitVec 32 :=
  let c0_i32_6 : BitVec 32 := 0#32
  let c1_i32_8 : BitVec 32 := 1#32
  let arg13 : BitVec 32 := Scf.iv c0_i32_6 c1_i32_8 k0_t1
  let c128_i32_155 : BitVec 32 := 128#32
  let v358 : BitVec 32 := Scalar.muli arg13 c128_i32_155
  let c96_i32 : BitVec 32 := 96#32
  let v359 : BitVec 32 := Scalar.addi v358 c96_i32
  v359
def k0_off3 (k0_t1 : Fin k0_t1_loop.trips) : Fin 4 → Nat :=
  let c0_200 : Index := 0#32
  let c0_i32_6 : BitVec 32 := 0#32
  let c1_i32_8 : BitVec 32 := 1#32
  let arg13 : BitVec 32 := Scf.iv c0_i32_6 c1_i32_8 k0_t1
  let v454 : Index := Scalar.indexCast arg13
  let c0_201 : Index := 0#32
  let c0_202 : Index := 0#32
  ![0, v454.toNat, 0, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x768 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x768 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x3x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_d" => some ((1 / 768 : ℝ) : EReal)
  | _ => none
-- ==== ReferenceIdeal.lean ====
abbrev S112x1024x768 : Shape := ⟨3, ![112, 1024, 768]⟩
abbrev S112x1024 : Shape := ⟨2, ![112, 1024]⟩
abbrev S112x768 : Shape := ⟨2, ![112, 768]⟩
abbrev S112x3x768 : Shape := ⟨3, ![112, 3, 768]⟩
abbrev S112x8x3x768 : Shape := ⟨4, ![112, 8, 3, 768]⟩
abbrev S112x1024x1 : Shape := ⟨3, ![112, 1024, 1]⟩
abbrev S112x8x128x768 : Shape := ⟨4, ![112, 8, 128, 768]⟩
abbrev S112x8x768 : Shape := ⟨3, ![112, 8, 768]⟩
abbrev S112x8x1x768 : Shape := ⟨4, ![112, 8, 1, 768]⟩
abbrev S112x1x768 : Shape := ⟨3, ![112, 1, 768]⟩

abbrev nBuf : Space → Nat
  | .hbm => 11
  | .vmem => 11
  | .smem => 0
  | _ => 0

abbrev bufTy : (tb : Table) → Fin (tcTables nBuf tb) → BufTy
  | .hbm, ⟨0, _⟩ => ⟨S112x1024x768, .fp8e4m3⟩
  | .hbm, ⟨1, _⟩ => ⟨S112x1024, .f32⟩
  | .hbm, ⟨2, _⟩ => ⟨S112x1024x768, .bf16⟩
  | .hbm, ⟨3, _⟩ => ⟨S112x1024x768, .fp8e5m2⟩
  | .hbm, ⟨4, _⟩ => ⟨S112x1024, .f32⟩
  | .hbm, ⟨5, _⟩ => ⟨S112x1024x768, .fp8e5m2⟩
  | .hbm, ⟨6, _⟩ => ⟨S112x1024, .f32⟩
  | .hbm, ⟨7, _⟩ => ⟨S112x768, .f32⟩
  | .hbm, ⟨8, _⟩ => ⟨S112x1024x768, .bf16⟩
  | .hbm, ⟨9, _⟩ => ⟨S112x3x768, .f32⟩
  | .hbm, ⟨10, _⟩ => ⟨S112x8x3x768, .f32⟩
  | .local _ .vmem, ⟨0, _⟩ => ⟨S112x1024x768, .fp8e4m3⟩
  | .local _ .vmem, ⟨1, _⟩ => ⟨S112x1024, .f32⟩
  | .local _ .vmem, ⟨2, _⟩ => ⟨S112x1024x768, .bf16⟩
  | .local _ .vmem, ⟨3, _⟩ => ⟨S112x1024x768, .fp8e5m2⟩
  | .local _ .vmem, ⟨4, _⟩ => ⟨S112x1024, .f32⟩
  | .local _ .vmem, ⟨5, _⟩ => ⟨S112x1024x768, .fp8e5m2⟩
  | .local _ .vmem, ⟨6, _⟩ => ⟨S112x1024, .f32⟩
  | .local _ .vmem, ⟨7, _⟩ => ⟨S112x768, .f32⟩
  | .local _ .vmem, ⟨8, _⟩ => ⟨S112x1024x768, .bf16⟩
  | .local _ .vmem, ⟨9, _⟩ => ⟨S112x3x768, .f32⟩
  | .local _ .vmem, ⟨10, _⟩ => ⟨S112x8x3x768, .f32⟩
  | _, _ => ⟨S112x1024x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S112x1024x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x1024x768 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x1024x768 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S112x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S112x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S112x1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S112x3x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S112x8x3x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelTrip.lean ====
module

public import proofs.«01_k».proof.Proof.Gen.Kernel.Loops
public import proofs.«01_k».proof.Proof.Gen.Kernel.Frame

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x1024x768 .bf16) (harg9 : arg9.IsWhole) (arg10 : Memref sig .tc .vmem S1x3x768 .f32) (harg10 : arg10.IsWhole) (arg11 : Memref sig .tc .vmem S1x8x3x768 .f32) (harg11 : arg11.IsWhole) (arg12 : Memref sig .tc .vmem S3x8x768 .f32) (harg12 : arg12.IsWhole)

/-- One 128-row block of the body, run once at a symbolic trip `k`: whatever the two outputs and the accumulator held,
    the trip writes fixed pieces into the two outputs (the first two components) and leaves the accumulator at
    something. The accumulator is cleared at the start of the trip, so the pieces do not depend on what it held. -/
@[irreducible] def trip (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) :
    Σ' (L9 : List (View.Piece (Elt F) S1x1024x768 .bf16)), { L11 : List (View.Piece (Elt F) S1x8x3x768 .f32) //
      ∀ (E : Set ℕ) (f9 : BufTy.Contents (Elt F) arg9.view.ty) (f11 : BufTy.Contents (Elt F) arg11.view.ty) (f12 : BufTy.Contents (Elt F) arg12.view.ty),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 v9 v10 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} arg9.view.writes (Elt F) f9 L9) ∗ (arg11.view.loc (c : Thread nD τ) ↦[arg11.view.set]{fullShare} arg11.view.writes (Elt F) f11 L11) ∗ (∃ g12, arg12.view.loc (c : Thread nD τ) ↦[arg12.view.set]{fullShare} g12))) } := by
  have hk : k.val < 8 := Nat.lt_of_lt_of_le k.isLt k0_t1_abs.2.1
  refine ⟨?_, ?_, fun E f9 f11 f12 => ?run⟩
  case run =>
    unfold k0_t1_body
    iintro ⟨HR1, HR2, HR3, HR5, HR6, HR7, HR8, HW9, HW11, HW12⟩
    sl_exec
    sl_step
    isplitl [HR1]; · iexact HR1
    isplitl [HR2]; · iexact HR2
    isplitl [HR3]; · iexact HR3
    isplitl [HR5]; · iexact HR5
    isplitl [HR6]; · iexact HR6
    isplitl [HR7]; · iexact HR7
    isplitl [HR8]; · iexact HR8
    isplitl [HW9]; · iexact HW9
    isplitl [HW11]; · iexact HW11
    iexists _; iexact HW12

end Cert.Kernel.Hand

end
-- ==== Proof.KernelRun.lean ====
module

public import proofs.«01_k».proof.Proof.KernelTrip
public import Idealize.ShloMosaic.Lib.Ring
public import Idealize.ShloMosaic.Lib.VecWindow
public import Idealize.ShloMosaic.Lib.Pipeline.Value

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x1024x768 .bf16) (harg9 : arg9.IsWhole) (arg10 : Memref sig .tc .vmem S1x3x768 .f32) (harg10 : arg10.IsWhole) (arg11 : Memref sig .tc .vmem S1x8x3x768 .f32) (harg11 : arg11.IsWhole) (arg12 : Memref sig .tc .vmem S3x8x768 .f32) (harg12 : arg12.IsWhole)

/-- The pieces the trips before `k` wrote into the gradient block (first) and into the block of partial sums (second),
    last first. -/
def pb (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) : ℕ → List (View.Piece (Elt F) S1x1024x768 .bf16) × List (View.Piece (Elt F) S1x8x3x768 .f32)
  | 0 => ([], [])
  | k + 1 =>
    if h : k < k0_t1_loop.trips then
      ((trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 ⟨k, h⟩).1 ++ (pb v9 v10 X1 X2 X3 X5 X6 X7 X8 k).1, (trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 ⟨k, h⟩).2.1 ++ (pb v9 v10 X1 X2 X3 X5 X6 X7 X8 k).2)
    else pb v9 v10 X1 X2 X3 X5 X6 X7 X8 k

/-- The pieces after trip `k` are trip `k`'s in front of those before it. -/
theorem pb_succ (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) :
    pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 (k.val + 1)
      = ((trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).1 ++ (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k.val).1, (trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).2.1 ++ (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k.val).2) := by
  rw [pb.eq_2]; exact dif_pos k.isLt

/-- What holds before trip `k`: the inputs as they are, the two outputs with the earlier trips' pieces written over what
    they held at the start, the accumulator at something. -/
abbrev inv (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G11 : BufTy.Contents (Elt F) arg11.view.ty) (k : ℕ) (_u : PUnit) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f) ∗ ⌜f = arg9.view.writes (Elt F) G9 (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).1⌝) ∗ (∃ f, (arg11.view.loc (c : Thread nD τ) ↦[arg11.view.set]{fullShare} f) ∗ ⌜f = arg11.view.writes (Elt F) G11 (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).2⌝) ∗ (∃ g, arg12.view.loc (c : Thread nD τ) ↦[arg12.view.set]{fullShare} g))

set_option warn.classDefReducibility false in
/-- One trip takes the invariant to the next. -/
@[sl_loop] def loopInv (E : Set ℕ) (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G11 : BufTy.Contents (Elt F) arg11.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 v9 v10 where
  inv := inv c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 G9 G11
  step k acc := by
    iintro ⟨HR1, HR2, HR3, HR5, HR6, HR7, HR8, ⟨%f9, HW9, %h9⟩, ⟨%f11, HW11, %h11⟩, ⟨%f12, HW12⟩⟩
    iapply (wp_wand_r Idealize.ShloMosaic.frame (wpE (defs₀ (F := F)) Variants.none (c : Thread nD τ) none) E)
    isplitl [HR1 HR2 HR3 HR5 HR6 HR7 HR8 HW9 HW11 HW12]
    · iapply ((trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).2.2 E f9 f11 f12)
      isplitl [HR1]; · iexact HR1
      isplitl [HR2]; · iexact HR2
      isplitl [HR3]; · iexact HR3
      isplitl [HR5]; · iexact HR5
      isplitl [HR6]; · iexact HR6
      isplitl [HR7]; · iexact HR7
      isplitl [HR8]; · iexact HR8
      isplitl [HW9]; · iexact HW9
      isplitl [HW11]; · iexact HW11
      iexact HW12
    · iintro %_ ⟨HR1, HR2, HR3, HR5, HR6, HR7, HR8, HW9, HW11, HW12⟩
      isplitl [HR1]; · iexact HR1
      isplitl [HR2]; · iexact HR2
      isplitl [HR3]; · iexact HR3
      isplitl [HR5]; · iexact HR5
      isplitl [HR6]; · iexact HR6
      isplitl [HR7]; · iexact HR7
      isplitl [HR8]; · iexact HR8
      rw [pb_succ]
      isplitl [HW9]
      · iexists _; isplitl [HW9]; · iexact HW9
        ipureintro; rw [h9, ← View.writes_append]
      isplitl [HW11]
      · iexists _; isplitl [HW11]; · iexact HW11
        ipureintro; rw [h11, ← View.writes_append]
      iexact HW12

/-- The row of the eight-row scale block that grid point `i` uses, as the body computes it. -/
abbrev rowWord (i : grid0.Coords) : BitVec 32 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

/-- All the pieces of the loop, at the input blocks `x·` and the row word the body computes. -/
abbrev pieces (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : List (View.Piece (Elt F) S1x1024x768 .bf16) × List (View.Piece (Elt F) S1x8x3x768 .f32) :=
  pb c i arg1 harg1 arg2 harg2 arg3 harg3 arg4 harg4 arg5 harg5 arg6 harg6 arg7 harg7 arg8 harg8 arg9 harg9 arg10 harg10 arg11 harg11 arg12 harg12 (rowWord i) (arg4.view.readAt (Elt F) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) (Scf.trips k0_t1_loop.lb k0_t1_loop.ub k0_t1_loop.st)

/-- The partial-sum pieces tile their block, so they cover it. -/
theorem cover11 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) (y : S1x8x3x768.Idx) : ∃ pc ∈ (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).2, y ∈ pc.1.set :=
  View.cover_of_tiledL (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).2 S1x1x3x768.size (by sl_kernel_rfl) y

/-- The gradient pieces tile their block, so they cover it. -/
theorem cover9 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) (y : S1x1024x768.Idx) : ∃ pc ∈ (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).1, y ∈ pc.1.set :=
  View.cover_of_tiledL (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).1 S1x32x768.size (by sl_kernel_rfl) y

/-- What the body leaves in the gradient block. -/
abbrev out9 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : Vec F S1x1024x768 .bf16 := View.canon (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).1

/-- What the body leaves in the block of partial sums. -/
abbrev out11 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : Vec F S1x8x3x768 .f32 := View.canon (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).2

/-- What the body leaves in the block of the whole sums: the partial sums added up. -/
abbrev out10 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : Vec F S1x3x768 .f32 := k0_pay5 (out11 c i arg1 harg1 arg2 harg2 arg3 harg3 arg4 harg4 arg5 harg5 arg6 harg6 arg7 harg7 arg8 harg8 arg9 harg9 arg10 harg10 arg11 harg11 arg12 harg12 x0 x1 x2 x3 x4 x5 x6 x7)

/-- The body at any grid point, on whole buffers: the inputs at their blocks, the outputs and the accumulator at anything. It
    ends with the inputs as they were, the outputs at `out9`, `out10`, `out11`, the accumulator at something. -/
theorem body_run (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) (E : Set ℕ) (K : PUnit → sProp 𝕄G) :
   (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out9 c i arg1 harg1 arg2 harg2 arg3 harg3 arg4 harg4 arg5 harg5 arg6 harg6 arg7 harg7 arg8 harg8 arg9 harg9 arg10 harg10 arg11 harg11 arg12 harg12 x0 x1 x2 x3 x4 x5 x6 x7) ∗ owns (c : Thread nD τ) arg10 fullShare (out10 c i arg1 harg1 arg2 harg2 arg3 harg3 arg4 harg4 arg5 harg5 arg6 harg6 arg7 harg7 arg8 harg8 arg9 harg9 arg10 harg10 arg11 harg11 arg12 harg12 x0 x1 x2 x3 x4 x5 x6 x7) ∗ owns (c : Thread nD τ) arg11 fullShare (out11 c i arg1 harg1 arg2 harg2 arg3 harg3 arg4 harg4 arg5 harg5 arg6 harg6 arg7 harg7 arg8 harg8 arg9 harg9 arg10 harg10 arg11 harg11 arg12 harg12 x0 x1 x2 x3 x4 x5 x6 x7) ∗ (∃ d, owns (c : Thread nD τ) arg12 fullShare d)) -∗ K ⟨⟩)) : sProp 𝕄G)
          ⊢ wp frame (wpE (defs₀ (F := F)) Variants.none c none) E (cc0_adaln_zero_bwd i arg1 harg1 arg2 harg2 arg3 harg3 arg4 harg4 arg5 harg5 arg6 harg6 arg7 harg7 arg8 harg8 arg9 harg9 arg10 harg10 arg11 harg11 arg12 harg12) K := by
  simp only [cc0_adaln_zero_bwd_eq_skeleton]; unfold cc0_adaln_zero_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro; exact View.read_writes_eq_canon _ _ _ (cover9 c i arg1 harg1 arg2 harg2 arg3 harg3 arg4 harg4 arg5 harg5 arg6 harg6 arg7 harg7 arg8 harg8 arg9 harg9 arg10 harg10 arg11 harg11 arg12 harg12 x0 x1 x2 x3 x4 x5 x6 x7)
  isplitl [H9]
  · iexists _; isplitr
    swap; · iexact H9
    ipureintro
    have hz : (![0, 0, 0] : Fin S1x3x768.rank → Nat) = fun _ => 0 := by decide
    refine (View.read_writes_eq_canon _ _ _ (fun y => ⟨_, List.mem_singleton_self _, View.mem_set_unit_zero (S := S1x3x768) hz inb_S1x3x768_S1x3x768_0_0_0 y⟩)).trans ?_
    refine (View.canon_unit_zero (S := S1x3x768) hz _ _).trans ?_
    exact congrArg k0_pay5 ((View.readAt_full _ _ _).trans (View.read_writes_eq_canon _ _ _ (cover11 c i arg1 harg1 arg2 harg2 arg3 harg3 arg4 harg4 arg5 harg5 arg6 harg6 arg7 harg7 arg8 harg8 arg9 harg9 arg10 harg10 arg11 harg11 arg12 harg12 x0 x1 x2 x3 x4 x5 x6 x7)))
  isplitl [H10]
  · iexists _; isplitr
    swap; · iexact H10
    ipureintro; exact View.read_writes_eq_canon _ _ _ (cover11 c i arg1 harg1 arg2 harg2 arg3 harg3 arg4 harg4 arg5 harg5 arg6 harg6 arg7 harg7 arg8 harg8 arg9 harg9 arg10 harg10 arg11 harg11 arg12 harg12 x0 x1 x2 x3 x4 x5 x6 x7)
  iexists _, _; isplitr; swap; · iexact HS0
  ipureintro; rfl

end Cert.Kernel.Hand

end
-- ==== Proof.KernelFrame.lean ====
module

public import proofs.«01_k».proof.Proof.KernelRun
public import Idealize.ShloMosaic.Lib.Pipeline.FrameBody
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a grid point, and the accumulator -/

abbrev ms0 (t : Fin cfg0.N) : Memref sig .tc .vmem S8x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x768 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x768 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x768 .fp8e5m2 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x768 .fp8e5m2 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x768 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x3x768 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x3x768 .f32 := win0_10.stage (cfg0.slots t 10)
abbrev hs10 (t : Fin cfg0.N) : (ms10 t).IsWhole := hstage0_10 ((cfg0.slots t 10).cast nbuf0_10)
/-- The accumulator's buffer. -/
abbrev scM : Memref sig .tc .vmem S3x8x768 .f32 := Memref.whole cc0_scratch0

/-- The pipeline's invariant: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the outputs hold after each grid point -/

/-- The gradient block after point `t`. -/
abbrev out9At (c : Dev nD) (t : Fin cfg0.N) : Vec F S1x1024x768 .bf16 := out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t)
/-- The block of whole sums after point `t`. -/
abbrev out10At (c : Dev nD) (t : Fin cfg0.N) : Vec F S1x3x768 .f32 := out10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t)
/-- The block of partial sums after point `t`. -/
abbrev out11At (c : Dev nD) (t : Fin cfg0.N) : Vec F S1x8x3x768 .f32 := out11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t)

/-- The pipeline's proof data: the arrays as the region finds them; after the body at point `t` each input's buffer at its
    block and the outputs' at `out9At`, `out10At`, `out11At`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out9At m c t
    | ⟨9, _⟩ => out10At m c t
    | ⟨10, _⟩ => out11At m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out9At m c t := by dsimp only [dats]
theorem after_9 (c : Dev nD) (t : Fin cfg0.N) : (dats m 0 c).after 9 t = out10At m c t := by dsimp only [dats]
theorem after_10 (c : Dev nD) (t : Fin cfg0.N) : (dats m 0 c).after 10 t = out11At m c t := by dsimp only [dats]

/-! Each input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1200000 in
/-- The body at any point takes the first to the second. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every weakly fair execution ends, with every array of the pipeline at what the library computes from the proof data, every
    other unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they began and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdealTrip.lean ====
module

public import proofs.«01_k».proof.Proof.Gen.KernelIdeal.Loops
public import proofs.«01_k».proof.Proof.Gen.KernelIdeal.Frame

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x1024x768 .bf16) (harg9 : arg9.IsWhole) (arg10 : Memref sig .tc .vmem S1x3x768 .f32) (harg10 : arg10.IsWhole) (arg11 : Memref sig .tc .vmem S1x8x3x768 .f32) (harg11 : arg11.IsWhole) (arg12 : Memref sig .tc .vmem S3x8x768 .f32) (harg12 : arg12.IsWhole)

/-- One 128-row block of the body, run once at a symbolic trip `k`: whatever the two outputs and the accumulator held,
    the trip writes fixed pieces into the two outputs (the first two components) and leaves the accumulator at
    something. The accumulator is cleared at the start of the trip, so the pieces do not depend on what it held. -/
@[irreducible] def trip (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) :
    Σ' (L9 : List (View.Piece (Elt F) S1x1024x768 .bf16)), { L11 : List (View.Piece (Elt F) S1x8x3x768 .f32) //
      ∀ (E : Set ℕ) (f9 : BufTy.Contents (Elt F) arg9.view.ty) (f11 : BufTy.Contents (Elt F) arg11.view.ty) (f12 : BufTy.Contents (Elt F) arg12.view.ty),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 v9 v10 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} arg9.view.writes (Elt F) f9 L9) ∗ (arg11.view.loc (c : Thread nD τ) ↦[arg11.view.set]{fullShare} arg11.view.writes (Elt F) f11 L11) ∗ (∃ g12, arg12.view.loc (c : Thread nD τ) ↦[arg12.view.set]{fullShare} g12))) } := by
  have hk : k.val < 8 := Nat.lt_of_lt_of_le k.isLt k0_t1_abs.2.1
  refine ⟨?_, ?_, fun E f9 f11 f12 => ?run⟩
  case run =>
    unfold k0_t1_body
    iintro ⟨HR1, HR2, HR3, HR5, HR6, HR7, HR8, HW9, HW11, HW12⟩
    sl_exec
    sl_step
    isplitl [HR1]; · iexact HR1
    isplitl [HR2]; · iexact HR2
    isplitl [HR3]; · iexact HR3
    isplitl [HR5]; · iexact HR5
    isplitl [HR6]; · iexact HR6
    isplitl [HR7]; · iexact HR7
    isplitl [HR8]; · iexact HR8
    isplitl [HW9]; · iexact HW9
    isplitl [HW11]; · iexact HW11
    iexists _; iexact HW12

end Cert.KernelIdeal.Hand

end
-- ==== Proof.KernelIdealRun.lean ====
module

public import proofs.«01_k».proof.Proof.KernelIdealTrip
public import Idealize.ShloMosaic.Lib.Ring
public import Idealize.ShloMosaic.Lib.VecWindow
public import Idealize.ShloMosaic.Lib.Pipeline.Value

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x1024x768 .bf16) (harg9 : arg9.IsWhole) (arg10 : Memref sig .tc .vmem S1x3x768 .f32) (harg10 : arg10.IsWhole) (arg11 : Memref sig .tc .vmem S1x8x3x768 .f32) (harg11 : arg11.IsWhole) (arg12 : Memref sig .tc .vmem S3x8x768 .f32) (harg12 : arg12.IsWhole)

/-- The pieces the trips before `k` wrote into the gradient block (first) and into the block of partial sums (second),
    last first. -/
def pb (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) : ℕ → List (View.Piece (Elt F) S1x1024x768 .bf16) × List (View.Piece (Elt F) S1x8x3x768 .f32)
  | 0 => ([], [])
  | k + 1 =>
    if h : k < k0_t1_loop.trips then
      ((trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 ⟨k, h⟩).1 ++ (pb v9 v10 X1 X2 X3 X5 X6 X7 X8 k).1, (trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 ⟨k, h⟩).2.1 ++ (pb v9 v10 X1 X2 X3 X5 X6 X7 X8 k).2)
    else pb v9 v10 X1 X2 X3 X5 X6 X7 X8 k

/-- The pieces after trip `k` are trip `k`'s in front of those before it. -/
theorem pb_succ (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) :
    pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 (k.val + 1)
      = ((trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).1 ++ (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k.val).1, (trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).2.1 ++ (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k.val).2) := by
  rw [pb.eq_2]; exact dif_pos k.isLt

/-- What holds before trip `k`: the inputs as they are, the two outputs with the earlier trips' pieces written over what
    they held at the start, the accumulator at something. -/
abbrev inv (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G11 : BufTy.Contents (Elt F) arg11.view.ty) (k : ℕ) (_u : PUnit) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f) ∗ ⌜f = arg9.view.writes (Elt F) G9 (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).1⌝) ∗ (∃ f, (arg11.view.loc (c : Thread nD τ) ↦[arg11.view.set]{fullShare} f) ∗ ⌜f = arg11.view.writes (Elt F) G11 (pb c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).2⌝) ∗ (∃ g, arg12.view.loc (c : Thread nD τ) ↦[arg12.view.set]{fullShare} g))

set_option warn.classDefReducibility false in
/-- One trip takes the invariant to the next. -/
@[sl_loop] def loopInv (E : Set ℕ) (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G11 : BufTy.Contents (Elt F) arg11.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 v9 v10 where
  inv := inv c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 G9 G11
  step k acc := by
    iintro ⟨HR1, HR2, HR3, HR5, HR6, HR7, HR8, ⟨%f9, HW9, %h9⟩, ⟨%f11, HW11, %h11⟩, ⟨%f12, HW12⟩⟩
    iapply (wp_wand_r Idealize.ShloMosaic.frame (wpE (defs₀ (F := F)) Variants.none (c : Thread nD τ) none) E)
    isplitl [HR1 HR2 HR3 HR5 HR6 HR7 HR8 HW9 HW11 HW12]
    · iapply ((trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).2.2 E f9 f11 f12)
      isplitl [HR1]; · iexact HR1
      isplitl [HR2]; · iexact HR2
      isplitl [HR3]; · iexact HR3
      isplitl [HR5]; · iexact HR5
      isplitl [HR6]; · iexact HR6
      isplitl [HR7]; · iexact HR7
      isplitl [HR8]; · iexact HR8
      isplitl [HW9]; · iexact HW9
      isplitl [HW11]; · iexact HW11
      iexact HW12
    · iintro %_ ⟨HR1, HR2, HR3, HR5, HR6, HR7, HR8, HW9, HW11, HW12⟩
      isplitl [HR1]; · iexact HR1
      isplitl [HR2]; · iexact HR2
      isplitl [HR3]; · iexact HR3
      isplitl [HR5]; · iexact HR5
      isplitl [HR6]; · iexact HR6
      isplitl [HR7]; · iexact HR7
      isplitl [HR8]; · iexact HR8
      rw [pb_succ]
      isplitl [HW9]
      · iexists _; isplitl [HW9]; · iexact HW9
        ipureintro; rw [h9, ← View.writes_append]
      isplitl [HW11]
      · iexists _; isplitl [HW11]; · iexact HW11
        ipureintro; rw [h11, ← View.writes_append]
      iexact HW12

/-- The row of the eight-row scale block that grid point `i` uses, as the body computes it. -/
abbrev rowWord (i : grid0.Coords) : BitVec 32 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

/-- All the pieces of the loop, at the input blocks `x·` and the row word the body computes. -/
abbrev pieces (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : List (View.Piece (Elt F) S1x1024x768 .bf16) × List (View.Piece (Elt F) S1x8x3x768 .f32) :=
  pb c i arg1 harg1 arg2 harg2 arg3 harg3 arg4 harg4 arg5 harg5 arg6 harg6 arg7 harg7 arg8 harg8 arg9 harg9 arg10 harg10 arg11 harg11 arg12 harg12 (rowWord i) (arg4.view.readAt (Elt F) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) (Scf.trips k0_t1_loop.lb k0_t1_loop.ub k0_t1_loop.st)

/-- The partial-sum pieces tile their block, so they cover it. -/
theorem cover11 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) (y : S1x8x3x768.Idx) : ∃ pc ∈ (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).2, y ∈ pc.1.set :=
  View.cover_of_tiledL (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).2 S1x1x3x768.size (by sl_kernel_rfl) y

/-- The gradient pieces tile their block, so they cover it. -/
theorem cover9 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) (y : S1x1024x768.Idx) : ∃ pc ∈ (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).1, y ∈ pc.1.set :=
  View.cover_of_tiledL (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).1 S1x32x768.size (by sl_kernel_rfl) y

/-- What the body leaves in the gradient block. -/
abbrev out9 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : Vec F S1x1024x768 .bf16 := View.canon (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).1

/-- What the body leaves in the block of partial sums. -/
abbrev out11 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : Vec F S1x8x3x768 .f32 := View.canon (pieces c i arg1 harg1 arg2 harg2 arg3 harg3 arg4 harg4 arg5 harg5 arg6 harg6 arg7 harg7 arg8 harg8 arg9 harg9 arg10 harg10 arg11 harg11 arg12 harg12 x0 x1 x2 x3 x4 x5 x6 x7).2

/-- What the body leaves in the block of the whole sums: the partial sums added up. -/
abbrev out10 (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) : Vec F S1x3x768 .f32 := k0_pay5 (out11 c i arg1 harg1 arg2 harg2 arg3 harg3 arg4 harg4 arg5 harg5 arg6 harg6 arg7 harg7 arg8 harg8 arg9 harg9 arg10 harg10 arg11 harg11 arg12 harg12 x0 x1 x2 x3 x4 x5 x6 x7)

/-- The body at any grid point, on whole buffers: the inputs at their blocks, the outputs and the accumulator at anything. It
    ends with the inputs as they were, the outputs at `out9`, `out10`, `out11`, the accumulator at something. -/
theorem body_run (x0 : Vec F S8x1024 .f32) (x1 : Vec F S8x1024 .f32) (x2 : Vec F S8x1024 .f32) (x3 : Vec F S8x768 .f32) (x4 : Vec F S1x1024x768 .fp8e4m3) (x5 : Vec F S1x1024x768 .bf16) (x6 : Vec F S1x1024x768 .fp8e5m2) (x7 : Vec F S1x1024x768 .fp8e5m2) (E : Set ℕ) (K : PUnit → sProp 𝕄G) :
   (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out9 c i arg1 harg1 arg2 harg2 arg3 harg3 arg4 harg4 arg5 harg5 arg6 harg6 arg7 harg7 arg8 harg8 arg9 harg9 arg10 harg10 arg11 harg11 arg12 harg12 x0 x1 x2 x3 x4 x5 x6 x7) ∗ owns (c : Thread nD τ) arg10 fullShare (out10 c i arg1 harg1 arg2 harg2 arg3 harg3 arg4 harg4 arg5 harg5 arg6 harg6 arg7 harg7 arg8 harg8 arg9 harg9 arg10 harg10 arg11 harg11 arg12 harg12 x0 x1 x2 x3 x4 x5 x6 x7) ∗ owns (c : Thread nD τ) arg11 fullShare (out11 c i arg1 harg1 arg2 harg2 arg3 harg3 arg4 harg4 arg5 harg5 arg6 harg6 arg7 harg7 arg8 harg8 arg9 harg9 arg10 harg10 arg11 harg11 arg12 harg12 x0 x1 x2 x3 x4 x5 x6 x7) ∗ (∃ d, owns (c : Thread nD τ) arg12 fullShare d)) -∗ K ⟨⟩)) : sProp 𝕄G)
          ⊢ wp frame (wpE (defs₀ (F := F)) Variants.none c none) E (cc0_adaln_zero_bwd i arg1 harg1 arg2 harg2 arg3 harg3 arg4 harg4 arg5 harg5 arg6 harg6 arg7 harg7 arg8 harg8 arg9 harg9 arg10 harg10 arg11 harg11 arg12 harg12) K := by
  simp only [cc0_adaln_zero_bwd_eq_skeleton]; unfold cc0_adaln_zero_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro; exact View.read_writes_eq_canon _ _ _ (cover9 c i arg1 harg1 arg2 harg2 arg3 harg3 arg4 harg4 arg5 harg5 arg6 harg6 arg7 harg7 arg8 harg8 arg9 harg9 arg10 harg10 arg11 harg11 arg12 harg12 x0 x1 x2 x3 x4 x5 x6 x7)
  isplitl [H9]
  · iexists _; isplitr
    swap; · iexact H9
    ipureintro
    have hz : (![0, 0, 0] : Fin S1x3x768.rank → Nat) = fun _ => 0 := by decide
    refine (View.read_writes_eq_canon _ _ _ (fun y => ⟨_, List.mem_singleton_self _, View.mem_set_unit_zero (S := S1x3x768) hz inb_S1x3x768_S1x3x768_0_0_0 y⟩)).trans ?_
    refine (View.canon_unit_zero (S := S1x3x768) hz _ _).trans ?_
    exact congrArg k0_pay5 ((View.readAt_full _ _ _).trans (View.read_writes_eq_canon _ _ _ (cover11 c i arg1 harg1 arg2 harg2 arg3 harg3 arg4 harg4 arg5 harg5 arg6 harg6 arg7 harg7 arg8 harg8 arg9 harg9 arg10 harg10 arg11 harg11 arg12 harg12 x0 x1 x2 x3 x4 x5 x6 x7)))
  isplitl [H10]
  · iexists _; isplitr
    swap; · iexact H10
    ipureintro; exact View.read_writes_eq_canon _ _ _ (cover11 c i arg1 harg1 arg2 harg2 arg3 harg3 arg4 harg4 arg5 harg5 arg6 harg6 arg7 harg7 arg8 harg8 arg9 harg9 arg10 harg10 arg11 harg11 arg12 harg12 x0 x1 x2 x3 x4 x5 x6 x7)
  iexists _, _; isplitr; swap; · iexact HS0
  ipureintro; rfl

end Cert.KernelIdeal.Hand

end
-- ==== Proof.KernelIdealFrame.lean ====
module

public import proofs.«01_k».proof.Proof.KernelIdealRun
public import Idealize.ShloMosaic.Lib.Pipeline.FrameBody
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers at a grid point, and the accumulator -/

abbrev ms0 (t : Fin cfg0.N) : Memref sig .tc .vmem S8x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x768 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x768 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x768 .fp8e5m2 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x768 .fp8e5m2 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x768 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x3x768 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x3x768 .f32 := win0_10.stage (cfg0.slots t 10)
abbrev hs10 (t : Fin cfg0.N) : (ms10 t).IsWhole := hstage0_10 ((cfg0.slots t 10).cast nbuf0_10)
/-- The accumulator's buffer. -/
abbrev scM : Memref sig .tc .vmem S3x8x768 .f32 := Memref.whole cc0_scratch0

/-- The pipeline's invariant: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the outputs hold after each grid point -/

/-- The gradient block after point `t`. -/
abbrev out9At (c : Dev nD) (t : Fin cfg0.N) : Vec F S1x1024x768 .bf16 := out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t)
/-- The block of whole sums after point `t`. -/
abbrev out10At (c : Dev nD) (t : Fin cfg0.N) : Vec F S1x3x768 .f32 := out10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t)
/-- The block of partial sums after point `t`. -/
abbrev out11At (c : Dev nD) (t : Fin cfg0.N) : Vec F S1x8x3x768 .f32 := out11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t)

/-- The pipeline's proof data: the arrays as the region finds them; after the body at point `t` each input's buffer at its
    block and the outputs' at `out9At`, `out10At`, `out11At`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out9At m c t
    | ⟨9, _⟩ => out10At m c t
    | ⟨10, _⟩ => out11At m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out9At m c t := by dsimp only [dats]
theorem after_9 (c : Dev nD) (t : Fin cfg0.N) : (dats m 0 c).after 9 t = out10At m c t := by dsimp only [dats]
theorem after_10 (c : Dev nD) (t : Fin cfg0.N) : (dats m 0 c).after 10 t = out11At m c t := by dsimp only [dats]

/-! Each input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1200000 in
/-- The body at any point takes the first to the second. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every weakly fair execution ends, with every array of the pipeline at what the library computes from the proof data, every
    other unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they began and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Spec.lean ====
module

public import Idealize.ShloMosaic.Lib.Pointwise

@[expose] public section

/-! What the two programs compute, over the extended reals: the functions of one row, the sums over 128 rows, and the
three result arrays as functions of the eight argument arrays. -/

noncomputable section

namespace Cert.Spec

open Idealize.ShloMosaic

/-- One over the row length. -/
def invD : EReal := ((1 / 768 : ℝ) : EReal)

/-- The constant added to the variance. -/
def eps : EReal := Ideal.ofBits .f32 0x358637BD#32

/-- The mean of a row. -/
def mean (x : Fin 768 → EReal) : EReal := (∑ k, x k) * invD

/-- A row less its mean. -/
def center (x : Fin 768 → EReal) (k : Fin 768) : EReal := x k - mean x

/-- The reciprocal standard deviation of a row. -/
def rstd (x : Fin 768 → EReal) : EReal := Ideal.rsqrt (mean (fun k => center x k * center x k) + eps)

/-- A row, normalised. -/
def xhat (x : Fin 768 → EReal) (k : Fin 768) : EReal := center x k * rstd x

/-- One row of the gradient: of the input row `x`, the incoming gradient `dy`, the gradient `dh` of the modulated row and
    the gain `gam`. -/
def dxRow (x dy dh gam : Fin 768 → EReal) (j : Fin 768) : EReal :=
  dy j + rstd x * (dh j * gam j - mean (fun k => dh k * gam k) - xhat x j * mean (fun k => dh k * gam k * xhat x k))

/-- What one row adds to the three sums: the shift's, the scale's and the gate's. -/
def term (a : Fin 3) (x dy dh f : Fin 768 → EReal) (j : Fin 768) : EReal :=
  if a = 0 then dh j else if a = 1 then dh j * xhat x j else dy j * f j

/-- A 3-d array of numbers, one number a row, and one array of gains, as functions of coordinates. -/
abbrev Arr3 := (⟨3, ![112, 1024, 768]⟩ : Shape).Idx → EReal
abbrev ArrS := (⟨2, ![112, 1024]⟩ : Shape).Idx → EReal
abbrev ArrM := (⟨2, ![112, 768]⟩ : Shape).Idx → EReal

/-- Row `n` of sample `b`: codes times the row's scale. -/
def row (c : Arr3) (s : ArrS) (b : Fin 112) (n : Fin 1024) (k : Fin 768) : EReal := c (ix3 b n k) * s (ix2 b n)

/-- The gain of sample `b`. -/
def gain (ms : ArrM) (b : Fin 112) (k : Fin 768) : EReal := 1 + ms (ix2 b k)

/-- The gradient, at a sample, a row and a column. -/
def dx (xc : Arr3) (xs : ArrS) (yc : Arr3) (ys : ArrS) (hc : Arr3) (hs : ArrS) (ms : ArrM)
    (b : Fin 112) (n : Fin 1024) (j : Fin 768) : EReal :=
  dxRow (row xc xs b n) (row yc ys b n) (row hc hs b n) (gain ms b) j

/-- Row `p` of the 128-row block `t`. -/
def rowOf (t : Fin 8) (p : Fin 128) : Fin 1024 := ⟨t.val * 128 + p.val, by omega⟩

/-- The partial sum `a` of block `t` of sample `b`, at a column. -/
def blk (xc : Arr3) (xs : ArrS) (f : Arr3) (yc : Arr3) (ys : ArrS) (hc : Arr3) (hs : ArrS)
    (b : Fin 112) (t : Fin 8) (a : Fin 3) (j : Fin 768) : EReal :=
  ∑ p : Fin 128, term a (row xc xs b (rowOf t p)) (row yc ys b (rowOf t p)) (row hc hs b (rowOf t p))
    (fun k => f (ix3 b (rowOf t p) k)) j

/-- The whole sum `a` of sample `b`, at a column: its eight partial sums added up. -/
def dmod (xc : Arr3) (xs : ArrS) (f : Arr3) (yc : Arr3) (ys : ArrS) (hc : Arr3) (hs : ArrS)
    (b : Fin 112) (a : Fin 3) (j : Fin 768) : EReal :=
  ∑ t : Fin 8, blk xc xs f yc ys hc hs b t a j

/-- The sum the kernel keeps on eight sublanes, each taking every eighth row of each of four 32-row chunks, is the sum over
    the 128 rows. -/
theorem sum_chunks (G : ℕ → EReal) :
    (∑ s : Fin 8, ((((0 + ∑ t : Fin 4, G (t.val * 8 + s.val)) + ∑ t : Fin 4, G (32 + (t.val * 8 + s.val)))
        + ∑ t : Fin 4, G (64 + (t.val * 8 + s.val))) + ∑ t : Fin 4, G (96 + (t.val * 8 + s.val))))
      = ∑ p : Fin 128, G p.val := by
  have h8 : ∀ H : ℕ → EReal, (∑ s : Fin 8, ∑ t : Fin 4, H (t.val * 8 + s.val)) = ∑ p ∈ Finset.range 32, H p := by
    intro H
    simp only [Fin.sum_univ_succ, Fin.sum_univ_zero, Finset.sum_range_succ, Finset.sum_range_zero]
    norm_num [Fin.val_succ]
    ac_rfl
  simp only [zero_add, Finset.sum_add_distrib]
  rw [h8 G, h8 (fun n => G (32 + n)), h8 (fun n => G (64 + n)), h8 (fun n => G (96 + n)), Fin.sum_univ_eq_sum_range G 128,
    show (128 : ℕ) = 96 + 32 from rfl, Finset.sum_range_add, show (96 : ℕ) = 64 + 32 from rfl, Finset.sum_range_add,
    show (64 : ℕ) = 32 + 32 from rfl, Finset.sum_range_add]

end Cert.Spec

end
-- ==== Proof.KernelIdealLists.lean ====
module

public import proofs.«01_k».proof.Proof.Gen.KernelIdeal.Loops
public import proofs.«01_k».proof.Proof.KernelIdealRun

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x1024x768 .bf16) (harg9 : arg9.IsWhole) (arg10 : Memref sig .tc .vmem S1x3x768 .f32) (harg10 : arg10.IsWhole) (arg11 : Memref sig .tc .vmem S1x8x3x768 .f32) (harg11 : arg11.IsWhole) (arg12 : Memref sig .tc .vmem S3x8x768 .f32) (harg12 : arg12.IsWhole)

/-- The values one trip works on: the three per-row scales of its 128 rows, and its four 32-row chunks of each of the four
    large inputs. -/
structure Vals (F : FTy → Type) where
  v19 : FVec F S1x768 .f32
  v41 : FVec F S128x1 .f32
  v56 : FVec F S128x1 .f32
  v71 : FVec F S128x1 .f32
  b5 : Fin 4 → Vec F S1x32x768 .fp8e4m3
  b6 : Fin 4 → Vec F S1x32x768 .bf16
  b7 : Fin 4 → Vec F S1x32x768 .fp8e5m2
  b8 : Fin 4 → Vec F S1x32x768 .fp8e5m2

/-- A chunk load of one trip: 32 rows of a whole block. -/
abbrev chunk {e : EltTy} (M : Memref sig .tc .vmem S1x1024x768 e) (X : BufTy.Contents (Elt F) M.view.ty) (k : Fin k0_t1_loop.trips) (q : Fin 4) : Vec F S1x32x768 e :=
  View.readAt (Elt F) M.view (Rect.unit (s := S1x1024x768) (k0_off2 k (BitVec.ofNat 32 (32 * q.val))) S1x32x768.size (k0_off2_inb k q)).toLoadRect X

/-- A scale load of one trip: 128 columns of an eight-row block. -/
abbrev cols (M : Memref sig .tc .vmem S8x1024 .f32) (X : BufTy.Contents (Elt F) M.view.ty) (k : Fin k0_t1_loop.trips) : Vec F S8x128 .f32 :=
  View.readAt (Elt F) M.view (Rect.unit (s := S8x1024) (k0_off1 k) S8x128.size (k0_off1_inb k)).toLoadRect X

/-- The values trip `k` loads. -/
abbrev vals (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) : Vals F where
  v19 := k0_pay1 i v10
  v41 := k0_pay6 v9 (cols arg1 X1 k)
  v56 := k0_pay7 v9 (cols arg2 X2 k)
  v71 := k0_pay8 v9 (cols arg3 X3 k)
  b5 := chunk arg5 X5 k
  b6 := chunk arg6 X6 k
  b7 := chunk arg7 X7 k
  b8 := chunk arg8 X8 k

/-- The gradient's four chunks. -/
def dx0 (V : Vals F) : FVec F S1x32x768 .bf16 := k0_pay16 V.v19 (k0_pay11 V.v56 (V.b7 0)) (k0_pay12 V.v71 (V.b8 0)) (k0_pay14 V.v41 (V.b5 0)) (k0_pay15 V.v41 (V.b5 0))
def dx1 (V : Vals F) : FVec F S1x32x768 .bf16 := k0_pay27 V.v19 (k0_pay21 V.v41 (V.b5 1)) (k0_pay22 V.v56 (V.b7 1)) (k0_pay23 V.v71 (V.b8 1))
def dx2 (V : Vals F) : FVec F S1x32x768 .bf16 := k0_pay40 (k0_pay34 V.v56 (V.b7 2)) (k0_pay37 (k0_pay32 (V.b5 2)) (k0_pay33 V.v41)) (k0_pay39 V.v19 V.v71 (k0_pay32 (V.b5 2)) (k0_pay33 V.v41) (V.b8 2))
def dx3 (V : Vals F) : FVec F S1x32x768 .bf16 := k0_pay50 V.v19 (k0_pay45 V.v56 (V.b7 3)) (k0_pay46 V.v71 (V.b8 3)) (k0_pay48 V.v41 (V.b5 3)) (k0_pay49 V.v41 (V.b5 3))

/-- What chunk `q` makes of accumulator row `a` (`step` followed by `q` and `a`), of the row as it was. -/
def step00 (V : Vals F) (L : Vec F S1x8x768 .f32) : Vec F S1x8x768 .f32 := k0_pay17 (k0_pay12 V.v71 (V.b8 0)) L
def step01 (V : Vals F) (L : Vec F S1x8x768 .f32) : Vec F S1x8x768 .f32 := k0_pay19 (k0_pay18 (k0_pay12 V.v71 (V.b8 0)) (k0_pay15 V.v41 (V.b5 0)) L)
def step02 (V : Vals F) (L : Vec F S1x8x768 .f32) : Vec F S1x8x768 .f32 := k0_pay20 (k0_pay11 V.v56 (V.b7 0)) L (V.b6 0)
def step10 (V : Vals F) (L : Vec F S1x8x768 .f32) : Vec F S1x8x768 .f32 := k0_pay29 (k0_pay28 (k0_pay23 V.v71 (V.b8 1)) L)
def step11 (V : Vals F) (L : Vec F S1x8x768 .f32) : Vec F S1x8x768 .f32 := k0_pay30 (k0_pay23 V.v71 (V.b8 1)) (k0_pay26 (k0_pay21 V.v41 (V.b5 1))) L
def step12 (V : Vals F) (L : Vec F S1x8x768 .f32) : Vec F S1x8x768 .f32 := k0_pay31 (k0_pay22 V.v56 (V.b7 1)) L (V.b6 1)
def step20 (V : Vals F) (L : Vec F S1x8x768 .f32) : Vec F S1x8x768 .f32 := k0_pay41 (k0_pay35 V.v71 (V.b8 2)) L
def step21 (V : Vals F) (L : Vec F S1x8x768 .f32) : Vec F S1x8x768 .f32 := k0_pay42 (k0_pay35 V.v71 (V.b8 2)) (k0_pay38 (k0_pay32 (V.b5 2)) (k0_pay33 V.v41)) L
def step22 (V : Vals F) (L : Vec F S1x8x768 .f32) : Vec F S1x8x768 .f32 := k0_pay44 (k0_pay43 (k0_pay34 V.v56 (V.b7 2)) L (V.b6 2))
def step30 (V : Vals F) (L : Vec F S1x8x768 .f32) : Vec F S1x8x768 .f32 := k0_pay51 (k0_pay46 V.v71 (V.b8 3)) L
def step31 (V : Vals F) (L : Vec F S1x8x768 .f32) : Vec F S1x8x768 .f32 := k0_pay2 (k0_pay52 (k0_pay46 V.v71 (V.b8 3)) (k0_pay49 V.v41 (V.b5 3)) L)
def step32 (V : Vals F) (L : Vec F S1x8x768 .f32) : Vec F S1x8x768 .f32 := k0_pay3 (k0_pay45 V.v56 (V.b7 3)) L (V.b6 3)

/-- Accumulator row `a`. -/
abbrev r0 : Rect S3x8x768 := Rect.unit (s := S3x8x768) ![0, 0, 0] S1x8x768.size inb_S3x8x768_S1x8x768_0_0_0
abbrev r1 : Rect S3x8x768 := Rect.unit (s := S3x8x768) ![1, 0, 0] S1x8x768.size inb_S3x8x768_S1x8x768_1_0_0
abbrev r2 : Rect S3x8x768 := Rect.unit (s := S3x8x768) ![2, 0, 0] S1x8x768.size inb_S3x8x768_S1x8x768_2_0_0
/-- The whole accumulator. -/
abbrev rw0 : Rect S3x8x768 := Rect.unit (s := S3x8x768) ![0, 0, 0] S3x8x768.size inb_S3x8x768_S3x8x768_0_0_0

/-- The accumulator's pieces after it is cleared and after each of the twelve row stores, last first. -/
abbrev acc0 : List (View.Piece (Elt F) S3x8x768 .f32) := [⟨rw0, k0_pay10 k0_pay9⟩]
def acc1 (M : Memref sig .tc .vmem S3x8x768 .f32) (V : Vals F) : List (View.Piece (Elt F) S3x8x768 .f32) := ⟨r0, step00 V (M.view.readCov (acc0) r0.toLoadRect)⟩ :: acc0
def acc2 (M : Memref sig .tc .vmem S3x8x768 .f32) (V : Vals F) : List (View.Piece (Elt F) S3x8x768 .f32) := ⟨r1, step01 V (M.view.readCov (acc1 M V) r1.toLoadRect)⟩ :: acc1 M V
def acc3 (M : Memref sig .tc .vmem S3x8x768 .f32) (V : Vals F) : List (View.Piece (Elt F) S3x8x768 .f32) := ⟨r2, step02 V (M.view.readCov (acc2 M V) r2.toLoadRect)⟩ :: acc2 M V
def acc4 (M : Memref sig .tc .vmem S3x8x768 .f32) (V : Vals F) : List (View.Piece (Elt F) S3x8x768 .f32) := ⟨r0, step10 V (M.view.readCov (acc3 M V) r0.toLoadRect)⟩ :: acc3 M V
def acc5 (M : Memref sig .tc .vmem S3x8x768 .f32) (V : Vals F) : List (View.Piece (Elt F) S3x8x768 .f32) := ⟨r1, step11 V (M.view.readCov (acc4 M V) r1.toLoadRect)⟩ :: acc4 M V
def acc6 (M : Memref sig .tc .vmem S3x8x768 .f32) (V : Vals F) : List (View.Piece (Elt F) S3x8x768 .f32) := ⟨r2, step12 V (M.view.readCov (acc5 M V) r2.toLoadRect)⟩ :: acc5 M V
def acc7 (M : Memref sig .tc .vmem S3x8x768 .f32) (V : Vals F) : List (View.Piece (Elt F) S3x8x768 .f32) := ⟨r0, step20 V (M.view.readCov (acc6 M V) r0.toLoadRect)⟩ :: acc6 M V
def acc8 (M : Memref sig .tc .vmem S3x8x768 .f32) (V : Vals F) : List (View.Piece (Elt F) S3x8x768 .f32) := ⟨r1, step21 V (M.view.readCov (acc7 M V) r1.toLoadRect)⟩ :: acc7 M V
def acc9 (M : Memref sig .tc .vmem S3x8x768 .f32) (V : Vals F) : List (View.Piece (Elt F) S3x8x768 .f32) := ⟨r2, step22 V (M.view.readCov (acc8 M V) r2.toLoadRect)⟩ :: acc8 M V
def acc10 (M : Memref sig .tc .vmem S3x8x768 .f32) (V : Vals F) : List (View.Piece (Elt F) S3x8x768 .f32) := ⟨r0, step30 V (M.view.readCov (acc9 M V) r0.toLoadRect)⟩ :: acc9 M V
def acc11 (M : Memref sig .tc .vmem S3x8x768 .f32) (V : Vals F) : List (View.Piece (Elt F) S3x8x768 .f32) := ⟨r1, step31 V (M.view.readCov (acc10 M V) r1.toLoadRect)⟩ :: acc10 M V
def acc12 (M : Memref sig .tc .vmem S3x8x768 .f32) (V : Vals F) : List (View.Piece (Elt F) S3x8x768 .f32) := ⟨r2, step32 V (M.view.readCov (acc11 M V) r2.toLoadRect)⟩ :: acc11 M V

/-- The pieces one trip writes into the gradient block. -/
theorem trip_1 (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) :
    (trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).1 = [(⟨Rect.unit (s := S1x1024x768) (k0_off2 k (BitVec.ofNat 32 (32 * (3 : Fin 4).val))) S1x32x768.size (k0_off2_inb k 3), dx3 (vals i arg1 arg2 arg3 arg5 arg6 arg7 arg8 v9 v10 X1 X2 X3 X5 X6 X7 X8 k)⟩ : View.Piece (Elt F) S1x1024x768 .bf16), (⟨Rect.unit (s := S1x1024x768) (k0_off2 k (BitVec.ofNat 32 (32 * (2 : Fin 4).val))) S1x32x768.size (k0_off2_inb k 2), dx2 (vals i arg1 arg2 arg3 arg5 arg6 arg7 arg8 v9 v10 X1 X2 X3 X5 X6 X7 X8 k)⟩ : View.Piece (Elt F) S1x1024x768 .bf16), (⟨Rect.unit (s := S1x1024x768) (k0_off2 k (BitVec.ofNat 32 (32 * (1 : Fin 4).val))) S1x32x768.size (k0_off2_inb k 1), dx1 (vals i arg1 arg2 arg3 arg5 arg6 arg7 arg8 v9 v10 X1 X2 X3 X5 X6 X7 X8 k)⟩ : View.Piece (Elt F) S1x1024x768 .bf16), (⟨Rect.unit (s := S1x1024x768) (k0_off2 k (BitVec.ofNat 32 (32 * (0 : Fin 4).val))) S1x32x768.size (k0_off2_inb k 0), dx0 (vals i arg1 arg2 arg3 arg5 arg6 arg7 arg8 v9 v10 X1 X2 X3 X5 X6 X7 X8 k)⟩ : View.Piece (Elt F) S1x1024x768 .bf16)] := by
  unfold trip; rfl

/-- The piece one trip writes into the block of partial sums. -/
theorem trip_2 (v9 : BitVec 32) (v10 : Vec F S8x768 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) :
    (trip c i arg1 harg1 arg2 harg2 arg3 harg3 arg4 harg4 arg5 harg5 arg6 harg6 arg7 harg7 arg8 harg8 arg9 harg9 arg10 harg10 arg11 harg11 arg12 harg12 v9 v10 X1 X2 X3 X5 X6 X7 X8 k).2.1 = [(⟨Rect.unit (s := S1x8x3x768) (k0_off3 k) S1x1x3x768.size (k0_off3_inb k), k0_pay4 (arg12.view.readCov (acc12 arg12 (vals i arg1 arg2 arg3 arg5 arg6 arg7 arg8 v9 v10 X1 X2 X3 X5 X6 X7 X8 k)) rw0.toLoadRect)⟩ : View.Piece (Elt F) S1x8x3x768 .f32)] := by
  unfold trip; rfl

end Cert.KernelIdeal.Hand

end
-- ==== Proof.KernelIdealPay.lean ====
module

public import Idealize.ShloMosaic.Lib.Pointwise
public import proofs.«01_k».proof.Proof.Spec
public import proofs.«01_k».proof.Proof.KernelIdealLists

public import Idealize.ShloMosaic.PureOps.IdealRules

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The four inputs of a chunk's row, scaled: `r` the row in the chunk, `p` the row in the 128-row block. -/
def vx (V : Vals Ideal) (q : Fin 4) (r : Fin 32) (p : Fin 128) (k : Fin 768) : EReal := V.b5 q (ix3 0 r k) * V.v41 (ix2 p 0)
def vdy (V : Vals Ideal) (q : Fin 4) (r : Fin 32) (p : Fin 128) (k : Fin 768) : EReal := V.b7 q (ix3 0 r k) * V.v56 (ix2 p 0)
def vdh (V : Vals Ideal) (q : Fin 4) (r : Fin 32) (p : Fin 128) (k : Fin 768) : EReal := V.b8 q (ix3 0 r k) * V.v71 (ix2 p 0)
def vf (V : Vals Ideal) (q : Fin 4) (r : Fin 32) (k : Fin 768) : EReal := V.b6 q (ix3 0 r k)
def vgam (V : Vals Ideal) (k : Fin 768) : EReal := V.v19 (ix2 0 k)

/-- The named constant is one over the row length. -/
theorem named_invD : Named.named (F := Ideal) (φ := .f32) Cert.KernelIdeal.κ "inv_d" 0x3AAAAAAB#32 = Spec.invD :=
  IdealRules.named_const.ideal_named_scalar _ _ _ _ rfl

/-- Row `t * 8 + s` of a 32-row chunk: what sublane `s` takes at step `t`. -/
def sub (t : Fin 4) (s : Fin 8) : Fin 32 := ⟨t.val * 8 + s.val, by omega⟩

/-- Chunk 0 of the gradient, at a row and a column. -/
theorem dx0_apply (V : Vals Ideal) (r : Fin 32) (j : Fin 768) :
    dx0 V (ix3 0 r j) = Spec.dxRow (vx V 0 r ⟨r.val, by omega⟩) (vdy V 0 r ⟨r.val, by omega⟩) (vdh V 0 r ⟨r.val, by omega⟩) (vgam V) j := by
  pointwise [dx0, k0_pay16, k0_pay11, k0_pay12, k0_pay13, k0_pay14, k0_pay15]
  simp only [named_invD]
  rfl

/-- What chunk 0 adds to accumulator row 0, at a sublane and a column. -/
theorem step00_apply (V : Vals Ideal) (L : Vec Ideal S1x8x768 .f32) (s : Fin 8) (j : Fin 768) :
    step00 V L (ix3 0 s j) = L (ix3 0 s j) + ∑ t : Fin 4, Spec.term 0 (vx V 0 (sub t s) ⟨(sub t s).val, by omega⟩) (vdy V 0 (sub t s) ⟨(sub t s).val, by omega⟩) (vdh V 0 (sub t s) ⟨(sub t s).val, by omega⟩) (vf V 0 (sub t s)) j := by
  pointwise [step00, k0_pay17, k0_pay12]
  rfl

/-- What chunk 0 adds to accumulator row 1, at a sublane and a column. -/
theorem step01_apply (V : Vals Ideal) (L : Vec Ideal S1x8x768 .f32) (s : Fin 8) (j : Fin 768) :
    step01 V L (ix3 0 s j) = L (ix3 0 s j) + ∑ t : Fin 4, Spec.term 1 (vx V 0 (sub t s) ⟨(sub t s).val, by omega⟩) (vdy V 0 (sub t s) ⟨(sub t s).val, by omega⟩) (vdh V 0 (sub t s) ⟨(sub t s).val, by omega⟩) (vf V 0 (sub t s)) j := by
  pointwise [step01, k0_pay19, k0_pay18, k0_pay12, k0_pay13, k0_pay14, k0_pay15]
  simp only [named_invD]
  rfl

/-- What chunk 0 adds to accumulator row 2, at a sublane and a column. -/
theorem step02_apply (V : Vals Ideal) (L : Vec Ideal S1x8x768 .f32) (s : Fin 8) (j : Fin 768) :
    step02 V L (ix3 0 s j) = L (ix3 0 s j) + ∑ t : Fin 4, Spec.term 2 (vx V 0 (sub t s) ⟨(sub t s).val, by omega⟩) (vdy V 0 (sub t s) ⟨(sub t s).val, by omega⟩) (vdh V 0 (sub t s) ⟨(sub t s).val, by omega⟩) (vf V 0 (sub t s)) j := by
  pointwise [step02, k0_pay20, k0_pay11]
  rfl

/-- Chunk 1 of the gradient, at a row and a column. -/
theorem dx1_apply (V : Vals Ideal) (r : Fin 32) (j : Fin 768) :
    dx1 V (ix3 0 r j) = Spec.dxRow (vx V 1 r ⟨32 + r.val, by omega⟩) (vdy V 1 r ⟨32 + r.val, by omega⟩) (vdh V 1 r ⟨32 + r.val, by omega⟩) (vgam V) j := by
  pointwise [dx1, k0_pay27, k0_pay21, k0_pay22, k0_pay23, k0_pay24, k0_pay25, k0_pay26]
  simp only [named_invD]
  rfl

/-- What chunk 1 adds to accumulator row 0, at a sublane and a column. -/
theorem step10_apply (V : Vals Ideal) (L : Vec Ideal S1x8x768 .f32) (s : Fin 8) (j : Fin 768) :
    step10 V L (ix3 0 s j) = L (ix3 0 s j) + ∑ t : Fin 4, Spec.term 0 (vx V 1 (sub t s) ⟨32 + (sub t s).val, by omega⟩) (vdy V 1 (sub t s) ⟨32 + (sub t s).val, by omega⟩) (vdh V 1 (sub t s) ⟨32 + (sub t s).val, by omega⟩) (vf V 1 (sub t s)) j := by
  pointwise [step10, k0_pay29, k0_pay28, k0_pay23]
  rfl

/-- What chunk 1 adds to accumulator row 1, at a sublane and a column. -/
theorem step11_apply (V : Vals Ideal) (L : Vec Ideal S1x8x768 .f32) (s : Fin 8) (j : Fin 768) :
    step11 V L (ix3 0 s j) = L (ix3 0 s j) + ∑ t : Fin 4, Spec.term 1 (vx V 1 (sub t s) ⟨32 + (sub t s).val, by omega⟩) (vdy V 1 (sub t s) ⟨32 + (sub t s).val, by omega⟩) (vdh V 1 (sub t s) ⟨32 + (sub t s).val, by omega⟩) (vf V 1 (sub t s)) j := by
  pointwise [step11, k0_pay30, k0_pay23, k0_pay26, k0_pay24, k0_pay25, k0_pay21]
  simp only [named_invD]
  rfl

/-- What chunk 1 adds to accumulator row 2, at a sublane and a column. -/
theorem step12_apply (V : Vals Ideal) (L : Vec Ideal S1x8x768 .f32) (s : Fin 8) (j : Fin 768) :
    step12 V L (ix3 0 s j) = L (ix3 0 s j) + ∑ t : Fin 4, Spec.term 2 (vx V 1 (sub t s) ⟨32 + (sub t s).val, by omega⟩) (vdy V 1 (sub t s) ⟨32 + (sub t s).val, by omega⟩) (vdh V 1 (sub t s) ⟨32 + (sub t s).val, by omega⟩) (vf V 1 (sub t s)) j := by
  pointwise [step12, k0_pay31, k0_pay22]
  rfl

/-- Chunk 2 of the gradient, at a row and a column. -/
theorem dx2_apply (V : Vals Ideal) (r : Fin 32) (j : Fin 768) :
    dx2 V (ix3 0 r j) = Spec.dxRow (vx V 2 r ⟨64 + r.val, by omega⟩) (vdy V 2 r ⟨64 + r.val, by omega⟩) (vdh V 2 r ⟨64 + r.val, by omega⟩) (vgam V) j := by
  pointwise [dx2, k0_pay40, k0_pay34, k0_pay32, k0_pay33, k0_pay36, k0_pay37, k0_pay38, k0_pay39, k0_pay35]
  simp only [named_invD]
  rfl

/-- What chunk 2 adds to accumulator row 0, at a sublane and a column. -/
theorem step20_apply (V : Vals Ideal) (L : Vec Ideal S1x8x768 .f32) (s : Fin 8) (j : Fin 768) :
    step20 V L (ix3 0 s j) = L (ix3 0 s j) + ∑ t : Fin 4, Spec.term 0 (vx V 2 (sub t s) ⟨64 + (sub t s).val, by omega⟩) (vdy V 2 (sub t s) ⟨64 + (sub t s).val, by omega⟩) (vdh V 2 (sub t s) ⟨64 + (sub t s).val, by omega⟩) (vf V 2 (sub t s)) j := by
  pointwise [step20, k0_pay41, k0_pay35]
  rfl

/-- What chunk 2 adds to accumulator row 1, at a sublane and a column. -/
theorem step21_apply (V : Vals Ideal) (L : Vec Ideal S1x8x768 .f32) (s : Fin 8) (j : Fin 768) :
    step21 V L (ix3 0 s j) = L (ix3 0 s j) + ∑ t : Fin 4, Spec.term 1 (vx V 2 (sub t s) ⟨64 + (sub t s).val, by omega⟩) (vdy V 2 (sub t s) ⟨64 + (sub t s).val, by omega⟩) (vdh V 2 (sub t s) ⟨64 + (sub t s).val, by omega⟩) (vf V 2 (sub t s)) j := by
  pointwise [step21, k0_pay42, k0_pay35, k0_pay36, k0_pay37, k0_pay38, k0_pay32, k0_pay33]
  simp only [named_invD]
  rfl

/-- What chunk 2 adds to accumulator row 2, at a sublane and a column. -/
theorem step22_apply (V : Vals Ideal) (L : Vec Ideal S1x8x768 .f32) (s : Fin 8) (j : Fin 768) :
    step22 V L (ix3 0 s j) = L (ix3 0 s j) + ∑ t : Fin 4, Spec.term 2 (vx V 2 (sub t s) ⟨64 + (sub t s).val, by omega⟩) (vdy V 2 (sub t s) ⟨64 + (sub t s).val, by omega⟩) (vdh V 2 (sub t s) ⟨64 + (sub t s).val, by omega⟩) (vf V 2 (sub t s)) j := by
  pointwise [step22, k0_pay44, k0_pay43, k0_pay34]
  rfl

/-- Chunk 3 of the gradient, at a row and a column. -/
theorem dx3_apply (V : Vals Ideal) (r : Fin 32) (j : Fin 768) :
    dx3 V (ix3 0 r j) = Spec.dxRow (vx V 3 r ⟨96 + r.val, by omega⟩) (vdy V 3 r ⟨96 + r.val, by omega⟩) (vdh V 3 r ⟨96 + r.val, by omega⟩) (vgam V) j := by
  pointwise [dx3, k0_pay50, k0_pay45, k0_pay46, k0_pay47, k0_pay48, k0_pay49]
  simp only [named_invD]
  rfl

/-- What chunk 3 adds to accumulator row 0, at a sublane and a column. -/
theorem step30_apply (V : Vals Ideal) (L : Vec Ideal S1x8x768 .f32) (s : Fin 8) (j : Fin 768) :
    step30 V L (ix3 0 s j) = L (ix3 0 s j) + ∑ t : Fin 4, Spec.term 0 (vx V 3 (sub t s) ⟨96 + (sub t s).val, by omega⟩) (vdy V 3 (sub t s) ⟨96 + (sub t s).val, by omega⟩) (vdh V 3 (sub t s) ⟨96 + (sub t s).val, by omega⟩) (vf V 3 (sub t s)) j := by
  pointwise [step30, k0_pay51, k0_pay46]
  rfl

/-- What chunk 3 adds to accumulator row 1, at a sublane and a column. -/
theorem step31_apply (V : Vals Ideal) (L : Vec Ideal S1x8x768 .f32) (s : Fin 8) (j : Fin 768) :
    step31 V L (ix3 0 s j) = L (ix3 0 s j) + ∑ t : Fin 4, Spec.term 1 (vx V 3 (sub t s) ⟨96 + (sub t s).val, by omega⟩) (vdy V 3 (sub t s) ⟨96 + (sub t s).val, by omega⟩) (vdh V 3 (sub t s) ⟨96 + (sub t s).val, by omega⟩) (vf V 3 (sub t s)) j := by
  pointwise [step31, k0_pay2, k0_pay52, k0_pay46, k0_pay47, k0_pay48, k0_pay49]
  simp only [named_invD]
  rfl

/-- What chunk 3 adds to accumulator row 2, at a sublane and a column. -/
theorem step32_apply (V : Vals Ideal) (L : Vec Ideal S1x8x768 .f32) (s : Fin 8) (j : Fin 768) :
    step32 V L (ix3 0 s j) = L (ix3 0 s j) + ∑ t : Fin 4, Spec.term 2 (vx V 3 (sub t s) ⟨96 + (sub t s).val, by omega⟩) (vdy V 3 (sub t s) ⟨96 + (sub t s).val, by omega⟩) (vdh V 3 (sub t s) ⟨96 + (sub t s).val, by omega⟩) (vf V 3 (sub t s)) j := by
  pointwise [step32, k0_pay3, k0_pay45]
  rfl

/-- The cleared accumulator is zero everywhere. -/
theorem cleared (a : Fin 3) (s : Fin 8) (j : Fin 768) : k0_pay10 (F := Ideal) k0_pay9 (ix3 a s j) = 0 := by
  pointwise [k0_pay10, k0_pay9]

/-- The partial sums written out: the accumulator added up over its eight sublanes. -/
theorem pay4_apply (A : Vec Ideal S3x8x768 .f32) (a : Fin 3) (j : Fin 768) : k0_pay4 A (ix4 0 0 a j) = ∑ s : Fin 8, A (ix3 a s j) := by
  pointwise [k0_pay4]

/-- The whole sums written out: the partial sums added up over the eight blocks. -/
theorem pay5_apply (A : Vec Ideal S1x8x3x768 .f32) (a : Fin 3) (j : Fin 768) : k0_pay5 A (ix3 0 a j) = ∑ t : Fin 8, A (ix4 0 t a j) := by
  pointwise [k0_pay5]

/-- Picking one of eight by comparing words is picking by number. -/
theorem pick (n : Fin 8) (f : Fin 8 → EReal) :
    (∑ x : Fin 8, Scalar.select (IntOp.cmpi .eq (BitVec.ofNat 32 x.val) (BitVec.ofNat 32 n.val)) (f x) 0) = f n := by
  rw [Finset.sum_eq_single n]
  · have : IntOp.cmpi .eq (BitVec.ofNat 32 n.val) (BitVec.ofNat 32 n.val) = 1#1 := by revert n; decide
    rw [this]; rfl
  · intro x _ hx
    have : IntOp.cmpi .eq (BitVec.ofNat 32 x.val) (BitVec.ofNat 32 n.val) = 0#1 := by revert x n; decide
    rw [this]; rfl
  · intro h; exact absurd (Finset.mem_univ _) h

/-- The row of its eight-row block that grid point `i` reads. -/
def rowIx (i : grid0.Coords) : Fin 8 := ⟨(i 0).val % 8, Nat.mod_lt _ (by norm_num)⟩

/-- The word the body computes is that row. -/
theorem rowWord_eq (i : grid0.Coords) : rowWord i = BitVec.ofNat 32 (rowIx i).val := by
  have h : ∀ n : Fin 112, (let v2 : BitVec 32 := Scalar.remsi (BitVec.ofNat 32 n.val) (Scalar.select (Scalar.cmpi .eq 8#32 0#32) 1#32 8#32)
      Scalar.select (Scalar.andi (Scalar.xori (Scalar.cmpi .slt v2 0#32) (Scalar.cmpi .slt (Scalar.select (Scalar.cmpi .eq 8#32 0#32) 1#32 8#32) 0#32)) (Scalar.cmpi .ne v2 0#32)) (Scalar.addi v2 (Scalar.select (Scalar.cmpi .eq 8#32 0#32) 1#32 8#32)) v2) = BitVec.ofNat 32 (n.val % 8) := by
    decide +kernel
  exact h ⟨(i 0).val, (i 0).isLt⟩

theorem pay1_apply (i : grid0.Coords) (v10 : Vec Ideal S8x768 .f32) (j : Fin 768) : k0_pay1 i v10 (ix2 0 j) = 1 + v10 (ix2 (rowIx i) j) := by
  have h : k0_pay1 i v10 (ix2 0 j) = 1 + ∑ x : Fin 8, Scalar.select (IntOp.cmpi .eq (BitVec.ofNat 32 x.val) (rowWord i)) (v10 (ix2 x j)) 0 := by
    pointwise [k0_pay1]
  rw [h, rowWord_eq, pick]
theorem pay6_apply (i : grid0.Coords) (t : Vec Ideal S8x128 .f32) (p : Fin 128) : k0_pay6 (rowWord i) t (ix2 p 0) = t (ix2 (rowIx i) p) := by
  have h : k0_pay6 (rowWord i) t (ix2 p 0) = ∑ x : Fin 8, Scalar.select (IntOp.cmpi .eq (BitVec.ofNat 32 x.val) (rowWord i)) (t (ix2 x p)) 0 := by
    generalize rowWord i = w
    pointwise [k0_pay6]
  rw [h, rowWord_eq, pick]
theorem pay7_apply (i : grid0.Coords) (t : Vec Ideal S8x128 .f32) (p : Fin 128) : k0_pay7 (rowWord i) t (ix2 p 0) = t (ix2 (rowIx i) p) := by
  have h : k0_pay7 (rowWord i) t (ix2 p 0) = ∑ x : Fin 8, Scalar.select (IntOp.cmpi .eq (BitVec.ofNat 32 x.val) (rowWord i)) (t (ix2 x p)) 0 := by
    generalize rowWord i = w
    pointwise [k0_pay7]
  rw [h, rowWord_eq, pick]
theorem pay8_apply (i : grid0.Coords) (t : Vec Ideal S8x128 .f32) (p : Fin 128) : k0_pay8 (rowWord i) t (ix2 p 0) = t (ix2 (rowIx i) p) := by
  have h : k0_pay8 (rowWord i) t (ix2 p 0) = ∑ x : Fin 8, Scalar.select (IntOp.cmpi .eq (BitVec.ofNat 32 x.val) (rowWord i)) (t (ix2 x p)) 0 := by
    generalize rowWord i = w
    pointwise [k0_pay8]
  rw [h, rowWord_eq, pick]
end Cert.KernelIdeal.Hand
end
-- ==== Proof.KernelIdealAcc.lean ====
module

public import Idealize.ShloMosaic.Lib.Pointwise
public import proofs.«01_k».proof.Proof.Spec
public import proofs.«01_k».proof.Proof.KernelIdealPay

public import Idealize.ShloMosaic.PureOps.IdealRules

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Where a unit-stride rectangle puts an index. -/
theorem emb_val {s : Shape} (off size : Fin s.rank → ℕ) (inb) (x : (Rect.unit off size inb).shape.Idx) (a : Fin s.rank) :
    ((Rect.unit off size inb).emb x a : ℕ) = off a + (x a : ℕ) := by
  show off a + 1 * (x a : ℕ) = _; omega

/-- Where row 0's rectangle puts a sublane and a column. -/
theorem emb0 (s : Fin 8) (j : Fin 768) : (r0.emb (ix3 0 s j : S1x8x768.Idx) : S3x8x768.Idx) = ix3 0 s j := by
  funext b; apply Fin.ext
  have h := emb_val (s := S3x8x768) ![0, 0, 0] S1x8x768.size inb_S3x8x768_S1x8x768_0_0_0 (ix3 0 s j : S1x8x768.Idx) b
  rw [h]; fin_cases b <;> simp [ix3]

/-- Reading row 0 back after a list of writes. -/
theorem ld0 (M : Memref sig .tc .vmem S3x8x768 .f32) (L : List (View.Piece (Elt Ideal) S3x8x768 .f32)) (s : Fin 8) (j : Fin 768) :
    M.view.readCov L r0.toLoadRect (ix3 0 s j : S1x8x768.Idx) = View.canon L (ix3 0 s j) := by
  rw [View.readCov_eq_canon']
  exact congrArg (View.canon L) (emb0 s j)

/-- A write of row 0 is what row 0 holds, -/
theorem hit0 (w : Vec Ideal S1x8x768 .f32) (L : List (View.Piece (Elt Ideal) S3x8x768 .f32)) (s : Fin 8) (j : Fin 768) :
    View.canon ((⟨r0, w⟩ : View.Piece (Elt Ideal) S3x8x768 .f32) :: L) (ix3 0 s j) = w (ix3 0 s j) := by
  rw [← emb0 s j]; exact View.canon_cons_emb r0 w L _

/-- and leaves the other rows alone. -/
theorem miss0 (w : Vec Ideal S1x8x768 .f32) (L : List (View.Piece (Elt Ideal) S3x8x768 .f32)) (b : Fin 3) (h : b ≠ 0) (s : Fin 8) (j : Fin 768) :
    View.canon ((⟨r0, w⟩ : View.Piece (Elt Ideal) S3x8x768 .f32) :: L) (ix3 b s j) = View.canon L (ix3 b s j) := by
  apply View.canon_cons_of_not_mem
  intro hm
  have h0 := (Rect.mem_set_unit (inb := inb_S3x8x768_S1x8x768_0_0_0).mp hm) 0
  apply h; apply Fin.ext
  simp [ix3] at h0 ⊢
  omega

/-- Where row 1's rectangle puts a sublane and a column. -/
theorem emb1 (s : Fin 8) (j : Fin 768) : (r1.emb (ix3 0 s j : S1x8x768.Idx) : S3x8x768.Idx) = ix3 1 s j := by
  funext b; apply Fin.ext
  have h := emb_val (s := S3x8x768) ![1, 0, 0] S1x8x768.size inb_S3x8x768_S1x8x768_1_0_0 (ix3 0 s j : S1x8x768.Idx) b
  rw [h]; fin_cases b <;> simp [ix3]

/-- Reading row 1 back after a list of writes. -/
theorem ld1 (M : Memref sig .tc .vmem S3x8x768 .f32) (L : List (View.Piece (Elt Ideal) S3x8x768 .f32)) (s : Fin 8) (j : Fin 768) :
    M.view.readCov L r1.toLoadRect (ix3 0 s j : S1x8x768.Idx) = View.canon L (ix3 1 s j) := by
  rw [View.readCov_eq_canon']
  exact congrArg (View.canon L) (emb1 s j)

/-- A write of row 1 is what row 1 holds, -/
theorem hit1 (w : Vec Ideal S1x8x768 .f32) (L : List (View.Piece (Elt Ideal) S3x8x768 .f32)) (s : Fin 8) (j : Fin 768) :
    View.canon ((⟨r1, w⟩ : View.Piece (Elt Ideal) S3x8x768 .f32) :: L) (ix3 1 s j) = w (ix3 0 s j) := by
  rw [← emb1 s j]; exact View.canon_cons_emb r1 w L _

/-- and leaves the other rows alone. -/
theorem miss1 (w : Vec Ideal S1x8x768 .f32) (L : List (View.Piece (Elt Ideal) S3x8x768 .f32)) (b : Fin 3) (h : b ≠ 1) (s : Fin 8) (j : Fin 768) :
    View.canon ((⟨r1, w⟩ : View.Piece (Elt Ideal) S3x8x768 .f32) :: L) (ix3 b s j) = View.canon L (ix3 b s j) := by
  apply View.canon_cons_of_not_mem
  intro hm
  have h0 := (Rect.mem_set_unit (inb := inb_S3x8x768_S1x8x768_1_0_0).mp hm) 0
  apply h; apply Fin.ext
  simp [ix3] at h0 ⊢
  omega

/-- Where row 2's rectangle puts a sublane and a column. -/
theorem emb2 (s : Fin 8) (j : Fin 768) : (r2.emb (ix3 0 s j : S1x8x768.Idx) : S3x8x768.Idx) = ix3 2 s j := by
  funext b; apply Fin.ext
  have h := emb_val (s := S3x8x768) ![2, 0, 0] S1x8x768.size inb_S3x8x768_S1x8x768_2_0_0 (ix3 0 s j : S1x8x768.Idx) b
  rw [h]; fin_cases b <;> simp [ix3]

/-- Reading row 2 back after a list of writes. -/
theorem ld2 (M : Memref sig .tc .vmem S3x8x768 .f32) (L : List (View.Piece (Elt Ideal) S3x8x768 .f32)) (s : Fin 8) (j : Fin 768) :
    M.view.readCov L r2.toLoadRect (ix3 0 s j : S1x8x768.Idx) = View.canon L (ix3 2 s j) := by
  rw [View.readCov_eq_canon']
  exact congrArg (View.canon L) (emb2 s j)

/-- A write of row 2 is what row 2 holds, -/
theorem hit2 (w : Vec Ideal S1x8x768 .f32) (L : List (View.Piece (Elt Ideal) S3x8x768 .f32)) (s : Fin 8) (j : Fin 768) :
    View.canon ((⟨r2, w⟩ : View.Piece (Elt Ideal) S3x8x768 .f32) :: L) (ix3 2 s j) = w (ix3 0 s j) := by
  rw [← emb2 s j]; exact View.canon_cons_emb r2 w L _

/-- and leaves the other rows alone. -/
theorem miss2 (w : Vec Ideal S1x8x768 .f32) (L : List (View.Piece (Elt Ideal) S3x8x768 .f32)) (b : Fin 3) (h : b ≠ 2) (s : Fin 8) (j : Fin 768) :
    View.canon ((⟨r2, w⟩ : View.Piece (Elt Ideal) S3x8x768 .f32) :: L) (ix3 b s j) = View.canon L (ix3 b s j) := by
  apply View.canon_cons_of_not_mem
  intro hm
  have h0 := (Rect.mem_set_unit (inb := inb_S3x8x768_S1x8x768_2_0_0).mp hm) 0
  apply h; apply Fin.ext
  simp [ix3] at h0 ⊢
  omega

/-- The cleared accumulator read at an index. -/
theorem canon0 (a : Fin 3) (s : Fin 8) (j : Fin 768) : View.canon (acc0 (F := Ideal)) (ix3 a s j) = 0 := by
  unfold acc0 rw0
  rw [View.canon_unit_zero (S := S3x8x768) (by funext b; fin_cases b <;> rfl)]
  exact cleared a s j

/-- What chunk 0 adds to row `a` on sublane `s` at a column. -/
def part0 (V : Vals Ideal) (a : Fin 3) (s : Fin 8) (j : Fin 768) : EReal :=
  ∑ t : Fin 4, Spec.term a (vx V 0 (sub t s) ⟨(sub t s).val, by omega⟩) (vdy V 0 (sub t s) ⟨(sub t s).val, by omega⟩) (vdh V 0 (sub t s) ⟨(sub t s).val, by omega⟩) (vf V 0 (sub t s)) j

/-- What chunk 1 adds to row `a` on sublane `s` at a column. -/
def part1 (V : Vals Ideal) (a : Fin 3) (s : Fin 8) (j : Fin 768) : EReal :=
  ∑ t : Fin 4, Spec.term a (vx V 1 (sub t s) ⟨32 + (sub t s).val, by omega⟩) (vdy V 1 (sub t s) ⟨32 + (sub t s).val, by omega⟩) (vdh V 1 (sub t s) ⟨32 + (sub t s).val, by omega⟩) (vf V 1 (sub t s)) j

/-- What chunk 2 adds to row `a` on sublane `s` at a column. -/
def part2 (V : Vals Ideal) (a : Fin 3) (s : Fin 8) (j : Fin 768) : EReal :=
  ∑ t : Fin 4, Spec.term a (vx V 2 (sub t s) ⟨64 + (sub t s).val, by omega⟩) (vdy V 2 (sub t s) ⟨64 + (sub t s).val, by omega⟩) (vdh V 2 (sub t s) ⟨64 + (sub t s).val, by omega⟩) (vf V 2 (sub t s)) j

/-- What chunk 3 adds to row `a` on sublane `s` at a column. -/
def part3 (V : Vals Ideal) (a : Fin 3) (s : Fin 8) (j : Fin 768) : EReal :=
  ∑ t : Fin 4, Spec.term a (vx V 3 (sub t s) ⟨96 + (sub t s).val, by omega⟩) (vdy V 3 (sub t s) ⟨96 + (sub t s).val, by omega⟩) (vdh V 3 (sub t s) ⟨96 + (sub t s).val, by omega⟩) (vf V 3 (sub t s)) j

theorem acc1_hit (M : Memref sig .tc .vmem S3x8x768 .f32) (V : Vals Ideal) (s : Fin 8) (j : Fin 768) :
    View.canon (acc1 M V) (ix3 0 s j) = View.canon (acc0 (F := Ideal)) (ix3 0 s j) + part0 V 0 s j := by
  unfold acc1; rw [hit0, step00_apply, ld0]; rfl
theorem acc1_miss (M : Memref sig .tc .vmem S3x8x768 .f32) (V : Vals Ideal) (b : Fin 3) (h : b ≠ 0) (s : Fin 8) (j : Fin 768) :
    View.canon (acc1 M V) (ix3 b s j) = View.canon (acc0 (F := Ideal)) (ix3 b s j) := by
  unfold acc1; rw [miss0 _ _ b h]

theorem acc2_hit (M : Memref sig .tc .vmem S3x8x768 .f32) (V : Vals Ideal) (s : Fin 8) (j : Fin 768) :
    View.canon (acc2 M V) (ix3 1 s j) = View.canon (acc1 M V) (ix3 1 s j) + part0 V 1 s j := by
  unfold acc2; rw [hit1, step01_apply, ld1]; rfl
theorem acc2_miss (M : Memref sig .tc .vmem S3x8x768 .f32) (V : Vals Ideal) (b : Fin 3) (h : b ≠ 1) (s : Fin 8) (j : Fin 768) :
    View.canon (acc2 M V) (ix3 b s j) = View.canon (acc1 M V) (ix3 b s j) := by
  unfold acc2; rw [miss1 _ _ b h]

theorem acc3_hit (M : Memref sig .tc .vmem S3x8x768 .f32) (V : Vals Ideal) (s : Fin 8) (j : Fin 768) :
    View.canon (acc3 M V) (ix3 2 s j) = View.canon (acc2 M V) (ix3 2 s j) + part0 V 2 s j := by
  unfold acc3; rw [hit2, step02_apply, ld2]; rfl
theorem acc3_miss (M : Memref sig .tc .vmem S3x8x768 .f32) (V : Vals Ideal) (b : Fin 3) (h : b ≠ 2) (s : Fin 8) (j : Fin 768) :
    View.canon (acc3 M V) (ix3 b s j) = View.canon (acc2 M V) (ix3 b s j) := by
  unfold acc3; rw [miss2 _ _ b h]

theorem acc4_hit (M : Memref sig .tc .vmem S3x8x768 .f32) (V : Vals Ideal) (s : Fin 8) (j : Fin 768) :
    View.canon (acc4 M V) (ix3 0 s j) = View.canon (acc3 M V) (ix3 0 s j) + part1 V 0 s j := by
  unfold acc4; rw [hit0, step10_apply, ld0]; rfl
theorem acc4_miss (M : Memref sig .tc .vmem S3x8x768 .f32) (V : Vals Ideal) (b : Fin 3) (h : b ≠ 0) (s : Fin 8) (j : Fin 768) :
    View.canon (acc4 M V) (ix3 b s j) = View.canon (acc3 M V) (ix3 b s j) := by
  unfold acc4; rw [miss0 _ _ b h]

theorem acc5_hit (M : Memref sig .tc .vmem S3x8x768 .f32) (V : Vals Ideal) (s : Fin 8) (j : Fin 768) :
    View.canon (acc5 M V) (ix3 1 s j) = View.canon (acc4 M V) (ix3 1 s j) + part1 V 1 s j := by
  unfold acc5; rw [hit1, step11_apply, ld1]; rfl
theorem acc5_miss (M : Memref sig .tc .vmem S3x8x768 .f32) (V : Vals Ideal) (b : Fin 3) (h : b ≠ 1) (s : Fin 8) (j : Fin 768) :
    View.canon (acc5 M V) (ix3 b s j) = View.canon (acc4 M V) (ix3 b s j) := by
  unfold acc5; rw [miss1 _ _ b h]

theorem acc6_hit (M : Memref sig .tc .vmem S3x8x768 .f32) (V : Vals Ideal) (s : Fin 8) (j : Fin 768) :
    View.canon (acc6 M V) (ix3 2 s j) = View.canon (acc5 M V) (ix3 2 s j) + part1 V 2 s j := by
  unfold acc6; rw [hit2, step12_apply, ld2]; rfl
theorem acc6_miss (M : Memref sig .tc .vmem S3x8x768 .f32) (V : Vals Ideal) (b : Fin 3) (h : b ≠ 2) (s : Fin 8) (j : Fin 768) :
    View.canon (acc6 M V) (ix3 b s j) = View.canon (acc5 M V) (ix3 b s j) := by
  unfold acc6; rw [miss2 _ _ b h]

theorem acc7_hit (M : Memref sig .tc .vmem S3x8x768 .f32) (V : Vals Ideal) (s : Fin 8) (j : Fin 768) :
    View.canon (acc7 M V) (ix3 0 s j) = View.canon (acc6 M V) (ix3 0 s j) + part2 V 0 s j := by
  unfold acc7; rw [hit0, step20_apply, ld0]; rfl
theorem acc7_miss (M : Memref sig .tc .vmem S3x8x768 .f32) (V : Vals Ideal) (b : Fin 3) (h : b ≠ 0) (s : Fin 8) (j : Fin 768) :
    View.canon (acc7 M V) (ix3 b s j) = View.canon (acc6 M V) (ix3 b s j) := by
  unfold acc7; rw [miss0 _ _ b h]

theorem acc8_hit (M : Memref sig .tc .vmem S3x8x768 .f32) (V : Vals Ideal) (s : Fin 8) (j : Fin 768) :
    View.canon (acc8 M V) (ix3 1 s j) = View.canon (acc7 M V) (ix3 1 s j) + part2 V 1 s j := by
  unfold acc8; rw [hit1, step21_apply, ld1]; rfl
theorem acc8_miss (M : Memref sig .tc .vmem S3x8x768 .f32) (V : Vals Ideal) (b : Fin 3) (h : b ≠ 1) (s : Fin 8) (j : Fin 768) :
    View.canon (acc8 M V) (ix3 b s j) = View.canon (acc7 M V) (ix3 b s j) := by
  unfold acc8; rw [miss1 _ _ b h]

theorem acc9_hit (M : Memref sig .tc .vmem S3x8x768 .f32) (V : Vals Ideal) (s : Fin 8) (j : Fin 768) :
    View.canon (acc9 M V) (ix3 2 s j) = View.canon (acc8 M V) (ix3 2 s j) + part2 V 2 s j := by
  unfold acc9; rw [hit2, step22_apply, ld2]; rfl
theorem acc9_miss (M : Memref sig .tc .vmem S3x8x768 .f32) (V : Vals Ideal) (b : Fin 3) (h : b ≠ 2) (s : Fin 8) (j : Fin 768) :
    View.canon (acc9 M V) (ix3 b s j) = View.canon (acc8 M V) (ix3 b s j) := by
  unfold acc9; rw [miss2 _ _ b h]

theorem acc10_hit (M : Memref sig .tc .vmem S3x8x768 .f32) (V : Vals Ideal) (s : Fin 8) (j : Fin 768) :
    View.canon (acc10 M V) (ix3 0 s j) = View.canon (acc9 M V) (ix3 0 s j) + part3 V 0 s j := by
  unfold acc10; rw [hit0, step30_apply, ld0]; rfl
theorem acc10_miss (M : Memref sig .tc .vmem S3x8x768 .f32) (V : Vals Ideal) (b : Fin 3) (h : b ≠ 0) (s : Fin 8) (j : Fin 768) :
    View.canon (acc10 M V) (ix3 b s j) = View.canon (acc9 M V) (ix3 b s j) := by
  unfold acc10; rw [miss0 _ _ b h]

theorem acc11_hit (M : Memref sig .tc .vmem S3x8x768 .f32) (V : Vals Ideal) (s : Fin 8) (j : Fin 768) :
    View.canon (acc11 M V) (ix3 1 s j) = View.canon (acc10 M V) (ix3 1 s j) + part3 V 1 s j := by
  unfold acc11; rw [hit1, step31_apply, ld1]; rfl
theorem acc11_miss (M : Memref sig .tc .vmem S3x8x768 .f32) (V : Vals Ideal) (b : Fin 3) (h : b ≠ 1) (s : Fin 8) (j : Fin 768) :
    View.canon (acc11 M V) (ix3 b s j) = View.canon (acc10 M V) (ix3 b s j) := by
  unfold acc11; rw [miss1 _ _ b h]

theorem acc12_hit (M : Memref sig .tc .vmem S3x8x768 .f32) (V : Vals Ideal) (s : Fin 8) (j : Fin 768) :
    View.canon (acc12 M V) (ix3 2 s j) = View.canon (acc11 M V) (ix3 2 s j) + part3 V 2 s j := by
  unfold acc12; rw [hit2, step32_apply, ld2]; rfl
theorem acc12_miss (M : Memref sig .tc .vmem S3x8x768 .f32) (V : Vals Ideal) (b : Fin 3) (h : b ≠ 2) (s : Fin 8) (j : Fin 768) :
    View.canon (acc12 M V) (ix3 b s j) = View.canon (acc11 M V) (ix3 b s j) := by
  unfold acc12; rw [miss2 _ _ b h]

/-- The accumulator after the whole trip. -/
theorem acc_apply (M : Memref sig .tc .vmem S3x8x768 .f32) (V : Vals Ideal) (a : Fin 3) (s : Fin 8) (j : Fin 768) :
    View.canon (acc12 M V) (ix3 a s j) = (((0 + part0 V a s j) + part1 V a s j) + part2 V a s j) + part3 V a s j := by
  have h0 : View.canon (acc12 M V) (ix3 0 s j) = (((0 + part0 V 0 s j) + part1 V 0 s j) + part2 V 0 s j) + part3 V 0 s j := by
    rw [acc12_miss M V 0 (by decide), acc11_miss M V 0 (by decide), acc10_hit, acc9_miss M V 0 (by decide), acc8_miss M V 0 (by decide), acc7_hit, acc6_miss M V 0 (by decide), acc5_miss M V 0 (by decide), acc4_hit, acc3_miss M V 0 (by decide), acc2_miss M V 0 (by decide), acc1_hit, canon0]
  have h1 : View.canon (acc12 M V) (ix3 1 s j) = (((0 + part0 V 1 s j) + part1 V 1 s j) + part2 V 1 s j) + part3 V 1 s j := by
    rw [acc12_miss M V 1 (by decide), acc11_hit, acc10_miss M V 1 (by decide), acc9_miss M V 1 (by decide), acc8_hit, acc7_miss M V 1 (by decide), acc6_miss M V 1 (by decide), acc5_hit, acc4_miss M V 1 (by decide), acc3_miss M V 1 (by decide), acc2_hit, acc1_miss M V 1 (by decide), canon0]
  have h2 : View.canon (acc12 M V) (ix3 2 s j) = (((0 + part0 V 2 s j) + part1 V 2 s j) + part2 V 2 s j) + part3 V 2 s j := by
    rw [acc12_hit, acc11_miss M V 2 (by decide), acc10_miss M V 2 (by decide), acc9_hit, acc8_miss M V 2 (by decide), acc7_miss M V 2 (by decide), acc6_hit, acc5_miss M V 2 (by decide), acc4_miss M V 2 (by decide), acc3_hit, acc2_miss M V 2 (by decide), acc1_miss M V 2 (by decide), canon0]
  fin_cases a
  · exact h0
  · exact h1
  · exact h2

/-- The trip's partial sums, when the chunks' rows are the rows of one 128-row block. -/
theorem sums_apply (M : Memref sig .tc .vmem S3x8x768 .f32) (V : Vals Ideal) (x dy dh f : Fin 128 → Fin 768 → EReal)
    (hx : ∀ q r p, p.val = 32 * q.val + r.val → vx V q r p = x p) (hdy : ∀ q r p, p.val = 32 * q.val + r.val → vdy V q r p = dy p)
    (hdh : ∀ q r p, p.val = 32 * q.val + r.val → vdh V q r p = dh p) (hf : ∀ q r (p : Fin 128), p.val = 32 * q.val + r.val → vf V q r = f p)
    (a : Fin 3) (j : Fin 768) :
    k0_pay4 (M.view.readCov (acc12 M V) rw0.toLoadRect) (ix4 0 0 a j) = ∑ p : Fin 128, Spec.term a (x p) (dy p) (dh p) (f p) j := by
  rw [pay4_apply]
  let G : ℕ → EReal := fun n => if h : n < 128 then Spec.term a (x ⟨n, h⟩) (dy ⟨n, h⟩) (dh ⟨n, h⟩) (f ⟨n, h⟩) j else 0
  have hG : ∀ p : Fin 128, G p.val = Spec.term a (x p) (dy p) (dh p) (f p) j := fun p => dif_pos p.isLt
  have hp : ∀ (q : Fin 4) (r : Fin 32) (p : Fin 128), p.val = 32 * q.val + r.val →
      Spec.term a (vx V q r p) (vdy V q r p) (vdh V q r p) (vf V q r) j = G p.val := fun q r p h => by
    rw [hx q r p h, hdy q r p h, hdh q r p h, hf q r p h, hG]
  have e : ∀ s : Fin 8, M.view.readCov (acc12 M V) rw0.toLoadRect (ix3 a s j : S3x8x768.Idx)
      = (((0 + ∑ t : Fin 4, G (t.val*8+s.val)) + ∑ t : Fin 4, G (32 + (t.val*8+s.val))) + ∑ t : Fin 4, G (64 + (t.val*8+s.val))) + ∑ t : Fin 4, G (96 + (t.val*8+s.val)) := by
    intro s
    rw [View.readCov_eq_canon']
    have e1 : rw0.toLoadRect.idx (ix3 a s j : S3x8x768.Idx) = (ix3 a s j : S3x8x768.Idx) := by
      funext b; apply Fin.ext
      have h := emb_val (s := S3x8x768) ![0, 0, 0] S3x8x768.size inb_S3x8x768_S3x8x768_0_0_0 (ix3 a s j : S3x8x768.Idx) b
      refine Eq.trans h ?_
      fin_cases b <;> simp [ix3]
    refine (congrArg (View.canon (acc12 M V)) e1).trans ?_
    rw [acc_apply]
    unfold part0 part1 part2 part3
    congr 1
    · congr 1
      · congr 1
        · congr 1
          refine Finset.sum_congr rfl fun t _ => ?_
          exact hp 0 (sub t s) ⟨(sub t s).val, by omega⟩ (by simp)
        · refine Finset.sum_congr rfl fun t _ => ?_
          exact hp 1 (sub t s) ⟨32 + (sub t s).val, by omega⟩ (by simp)
      · refine Finset.sum_congr rfl fun t _ => ?_
        exact hp 2 (sub t s) ⟨64 + (sub t s).val, by omega⟩ (by simp)
    · refine Finset.sum_congr rfl fun t _ => ?_
      exact hp 3 (sub t s) ⟨96 + (sub t s).val, by omega⟩ (by simp)
  rw [Finset.sum_congr rfl (fun s _ => e s), Spec.sum_chunks]
  exact Finset.sum_congr rfl fun p _ => hG p

end Cert.KernelIdeal.Hand
end
-- ==== Proof.KernelIdealBody.lean ====
module

public import Idealize.ShloMosaic.Lib.Pointwise
public import proofs.«01_k».proof.Proof.Spec
public import proofs.«01_k».proof.Proof.KernelIdealAcc

public import Idealize.ShloMosaic.PureOps.IdealRules
public import Idealize.ShloMosaic.Lib.WholeRead

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Trip `k` as a number below eight. -/
def tk (k : Fin k0_t1_loop.trips) : Fin 8 := ⟨k.val, Nat.lt_of_lt_of_le k.isLt k0_t1_abs.2.1⟩

/-- A scale load at a row and a column. -/
theorem cols_apply (M : Memref sig .tc .vmem S8x1024 .f32) (h : M.IsWhole) (X : Vec Ideal S8x1024 .f32) (k : Fin k0_t1_loop.trips) (a : Fin 8) (p : Fin 128) :
    cols M (h.unread X) k (ix2 a p : S8x128.Idx) = X (ix2 a (Spec.rowOf (tk k) p)) := by
  refine (Memref.IsWhole.readAt_unread h X _ _).trans (congrArg X ?_)
  funext b; apply Fin.ext
  refine (emb_val (s := S8x1024) (k0_off1 k) S8x128.size (k0_off1_inb k) (ix2 a p : S8x128.Idx) b).trans ?_
  refine (congrArg (fun z => z + _) (congrFun (k0_off1_eq k) b)).trans ?_
  fin_cases b
  · simp [ix2]
  · simp [ix2, Spec.rowOf, tk]; omega

/-- A chunk load at a row and a column. -/
theorem chunk_apply {e : EltTy} (M : Memref sig .tc .vmem S1x1024x768 e) (h : M.IsWhole) (X : Vec Ideal S1x1024x768 e) (k : Fin k0_t1_loop.trips) (q : Fin 4) (r : Fin 32) (j : Fin 768)
    (p : Fin 128) (hp : p.val = 32 * q.val + r.val) :
    chunk M (h.unread X) k q (ix3 0 r j : S1x32x768.Idx) = X (ix3 0 (Spec.rowOf (tk k) p) j) := by
  refine (Memref.IsWhole.readAt_unread h X _ _).trans (congrArg X ?_)
  funext b; apply Fin.ext
  refine (emb_val (s := S1x1024x768) (k0_off2 k (BitVec.ofNat 32 (32 * q.val))) S1x32x768.size (k0_off2_inb k q) (ix3 0 r j : S1x32x768.Idx) b).trans ?_
  refine (congrArg (fun z => z + _) (congrFun (k0_off2_eq k q) b)).trans ?_
  fin_cases b
  · simp [ix3]
  · simp [ix3, Spec.rowOf, tk]; omega
  · simp [ix3]

/-- A row of a block: codes times the row's scale, which stands in row `i` of its eight-row block. -/
def brow (i : grid0.Coords) (s : Vec Ideal S8x1024 .f32) (x : S1x1024x768.Idx → EReal) (n : Fin 1024) (k : Fin 768) : EReal := x (ix3 0 n k) * s (ix2 (rowIx i) n)
/-- The gain of a block. -/
def bgain (i : grid0.Coords) (s : Vec Ideal S8x768 .f32) (k : Fin 768) : EReal := 1 + s (ix2 (rowIx i) k)

/-- The block of the gradient, and of the partial sums, as functions of the input blocks. -/
def G9 (i : grid0.Coords) (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) : Vec Ideal S1x1024x768 .bf16 := fun y =>
  Spec.dxRow (brow i x0 x4 (y 1)) (brow i x1 x6 (y 1)) (brow i x2 x7 (y 1)) (bgain i x3) (y 2)
def G11 (i : grid0.Coords) (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) : Vec Ideal S1x8x3x768 .f32 := fun y =>
  ∑ p : Fin 128, Spec.term (y 2) (brow i x0 x4 (Spec.rowOf (y 1) p)) (brow i x1 x6 (Spec.rowOf (y 1) p)) (brow i x2 x7 (Spec.rowOf (y 1) p))
    (fun k => x5 (ix3 0 (Spec.rowOf (y 1) p) k)) (y 3)

variable (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x1024x768 .bf16) (harg9 : arg9.IsWhole) (arg10 : Memref sig .tc .vmem S1x3x768 .f32) (harg10 : arg10.IsWhole) (arg11 : Memref sig .tc .vmem S1x8x3x768 .f32) (harg11 : arg11.IsWhole) (arg12 : Memref sig .tc .vmem S3x8x768 .f32) (harg12 : arg12.IsWhole)

/-- The rows of a trip's chunks are the rows of its 128-row block. -/
theorem vx_eq (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (q : Fin 4) (r : Fin 32) (p : Fin 128) (hp : p.val = 32 * q.val + r.val) :
    vx (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) q r p = brow i x0 x4 (Spec.rowOf (tk k) p) := by
  funext j; unfold vx brow vals
  exact congrArg₂ (fun a b : EReal => a * b) (chunk_apply arg5 harg5 x4 k q r j p hp) ((pay6_apply i _ p).trans (cols_apply arg1 harg1 x0 k _ p))
theorem vdy_eq (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (q : Fin 4) (r : Fin 32) (p : Fin 128) (hp : p.val = 32 * q.val + r.val) :
    vdy (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) q r p = brow i x1 x6 (Spec.rowOf (tk k) p) := by
  funext j; unfold vdy brow vals
  exact congrArg₂ (fun a b : EReal => a * b) (chunk_apply arg7 harg7 x6 k q r j p hp) ((pay7_apply i _ p).trans (cols_apply arg2 harg2 x1 k _ p))
theorem vdh_eq (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (q : Fin 4) (r : Fin 32) (p : Fin 128) (hp : p.val = 32 * q.val + r.val) :
    vdh (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) q r p = brow i x2 x7 (Spec.rowOf (tk k) p) := by
  funext j; unfold vdh brow vals
  exact congrArg₂ (fun a b : EReal => a * b) (chunk_apply arg8 harg8 x7 k q r j p hp) ((pay8_apply i _ p).trans (cols_apply arg3 harg3 x2 k _ p))
theorem vf_eq (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (q : Fin 4) (r : Fin 32) (p : Fin 128) (hp : p.val = 32 * q.val + r.val) :
    vf (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) q r = fun j => x5 (ix3 0 (Spec.rowOf (tk k) p) j) := by
  funext j; unfold vf vals
  exact chunk_apply arg6 harg6 x5 k q r j p hp
theorem vgam_eq (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) :
    vgam (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) = bgain i x3 := by
  funext j; unfold vgam bgain vals
  refine (pay1_apply i _ j).trans ?_
  rw [Memref.IsWhole.readAt_unread]
  refine congrArg (fun y => 1 + x3 y) ?_
  funext b; apply Fin.ext
  refine (emb_val (s := S8x768) ![0, 0] S8x768.size inb_S8x768_S8x768_0_0 (ix2 (rowIx i) j : S8x768.Idx) b).trans ?_
  fin_cases b <;> simp [ix2]

/-- Where a chunk's rectangle puts a row and a column. -/
theorem emb9 (k : Fin k0_t1_loop.trips) (q : Fin 4) (r : Fin 32) (j : Fin 768) (p : Fin 128) (hp : p.val = 32 * q.val + r.val) :
    ((Rect.unit (s := S1x1024x768) (k0_off2 k (BitVec.ofNat 32 (32 * q.val))) S1x32x768.size (k0_off2_inb k q)).emb (ix3 0 r j : S1x32x768.Idx) : S1x1024x768.Idx)
      = ix3 0 (Spec.rowOf (tk k) p) j := by
  funext b; apply Fin.ext
  refine (emb_val (s := S1x1024x768) (k0_off2 k (BitVec.ofNat 32 (32 * q.val))) S1x32x768.size (k0_off2_inb k q) (ix3 0 r j : S1x32x768.Idx) b).trans ?_
  refine (congrArg (fun z => z + _) (congrFun (k0_off2_eq k q) b)).trans ?_
  fin_cases b
  · simp [ix3]
  · simp [ix3, Spec.rowOf, tk]; omega
  · simp [ix3]

/-- Where a trip's partial sums go. -/
theorem emb11 (k : Fin k0_t1_loop.trips) (a : Fin 3) (j : Fin 768) :
    ((Rect.unit (s := S1x8x3x768) (k0_off3 k) S1x1x3x768.size (k0_off3_inb k)).emb (ix4 0 0 a j : S1x1x3x768.Idx) : S1x8x3x768.Idx)
      = ix4 0 (tk k) a j := by
  funext b; apply Fin.ext
  refine (emb_val (s := S1x8x3x768) (k0_off3 k) S1x1x3x768.size (k0_off3_inb k) (ix4 0 0 a j : S1x1x3x768.Idx) b).trans ?_
  refine (congrArg (fun z => z + _) (congrFun (k0_off3_eq k) b)).trans ?_
  fin_cases b <;> simp [ix4, tk]

/-- Chunk 0 of a trip's gradient is that chunk of the block. -/
theorem dx0_G9 (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (y : S1x32x768.Idx) :
    dx0 (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) y = G9 i x0 x1 x2 x3 x4 x5 x6 x7 ((Rect.unit (s := S1x1024x768) (k0_off2 k (BitVec.ofNat 32 (32 * (0 : Fin 4).val))) S1x32x768.size (k0_off2_inb k 0)).emb y) := by
  obtain ⟨r, j, rfl⟩ : ∃ (r : Fin 32) (j : Fin 768), y = ix3 0 r j := ⟨y 1, y 2, by
    funext b; fin_cases b
    · exact Subsingleton.elim (α := Fin 1) _ _
    · rfl
    · rfl⟩
  have hp : (⟨r.val, by omega⟩ : Fin 128).val = 32 * (0 : Fin 4).val + r.val := by simp
  rw [dx0_apply, vx_eq i arg1 harg1 arg2 harg2 arg3 harg3 arg4 harg4 arg5 harg5 arg6 harg6 arg7 harg7 arg8 harg8 x0 x1 x2 x3 x4 x5 x6 x7 k 0 r _ hp, vdy_eq i arg1 harg1 arg2 harg2 arg3 harg3 arg4 harg4 arg5 harg5 arg6 harg6 arg7 harg7 arg8 harg8 x0 x1 x2 x3 x4 x5 x6 x7 k 0 r _ hp, vdh_eq i arg1 harg1 arg2 harg2 arg3 harg3 arg4 harg4 arg5 harg5 arg6 harg6 arg7 harg7 arg8 harg8 x0 x1 x2 x3 x4 x5 x6 x7 k 0 r _ hp, vgam_eq i arg1 harg1 arg2 harg2 arg3 harg3 arg4 harg4 arg5 harg5 arg6 harg6 arg7 harg7 arg8 harg8 x0 x1 x2 x3 x4 x5 x6 x7 k]
  exact (congrArg (G9 i x0 x1 x2 x3 x4 x5 x6 x7) (emb9 k 0 r j _ hp)).symm

/-- Chunk 1 of a trip's gradient is that chunk of the block. -/
theorem dx1_G9 (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (y : S1x32x768.Idx) :
    dx1 (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) y = G9 i x0 x1 x2 x3 x4 x5 x6 x7 ((Rect.unit (s := S1x1024x768) (k0_off2 k (BitVec.ofNat 32 (32 * (1 : Fin 4).val))) S1x32x768.size (k0_off2_inb k 1)).emb y) := by
  obtain ⟨r, j, rfl⟩ : ∃ (r : Fin 32) (j : Fin 768), y = ix3 0 r j := ⟨y 1, y 2, by
    funext b; fin_cases b
    · exact Subsingleton.elim (α := Fin 1) _ _
    · rfl
    · rfl⟩
  have hp : (⟨32 + r.val, by omega⟩ : Fin 128).val = 32 * (1 : Fin 4).val + r.val := by simp
  rw [dx1_apply, vx_eq i arg1 harg1 arg2 harg2 arg3 harg3 arg4 harg4 arg5 harg5 arg6 harg6 arg7 harg7 arg8 harg8 x0 x1 x2 x3 x4 x5 x6 x7 k 1 r _ hp, vdy_eq i arg1 harg1 arg2 harg2 arg3 harg3 arg4 harg4 arg5 harg5 arg6 harg6 arg7 harg7 arg8 harg8 x0 x1 x2 x3 x4 x5 x6 x7 k 1 r _ hp, vdh_eq i arg1 harg1 arg2 harg2 arg3 harg3 arg4 harg4 arg5 harg5 arg6 harg6 arg7 harg7 arg8 harg8 x0 x1 x2 x3 x4 x5 x6 x7 k 1 r _ hp, vgam_eq i arg1 harg1 arg2 harg2 arg3 harg3 arg4 harg4 arg5 harg5 arg6 harg6 arg7 harg7 arg8 harg8 x0 x1 x2 x3 x4 x5 x6 x7 k]
  exact (congrArg (G9 i x0 x1 x2 x3 x4 x5 x6 x7) (emb9 k 1 r j _ hp)).symm

/-- Chunk 2 of a trip's gradient is that chunk of the block. -/
theorem dx2_G9 (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (y : S1x32x768.Idx) :
    dx2 (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) y = G9 i x0 x1 x2 x3 x4 x5 x6 x7 ((Rect.unit (s := S1x1024x768) (k0_off2 k (BitVec.ofNat 32 (32 * (2 : Fin 4).val))) S1x32x768.size (k0_off2_inb k 2)).emb y) := by
  obtain ⟨r, j, rfl⟩ : ∃ (r : Fin 32) (j : Fin 768), y = ix3 0 r j := ⟨y 1, y 2, by
    funext b; fin_cases b
    · exact Subsingleton.elim (α := Fin 1) _ _
    · rfl
    · rfl⟩
  have hp : (⟨64 + r.val, by omega⟩ : Fin 128).val = 32 * (2 : Fin 4).val + r.val := by simp
  rw [dx2_apply, vx_eq i arg1 harg1 arg2 harg2 arg3 harg3 arg4 harg4 arg5 harg5 arg6 harg6 arg7 harg7 arg8 harg8 x0 x1 x2 x3 x4 x5 x6 x7 k 2 r _ hp, vdy_eq i arg1 harg1 arg2 harg2 arg3 harg3 arg4 harg4 arg5 harg5 arg6 harg6 arg7 harg7 arg8 harg8 x0 x1 x2 x3 x4 x5 x6 x7 k 2 r _ hp, vdh_eq i arg1 harg1 arg2 harg2 arg3 harg3 arg4 harg4 arg5 harg5 arg6 harg6 arg7 harg7 arg8 harg8 x0 x1 x2 x3 x4 x5 x6 x7 k 2 r _ hp, vgam_eq i arg1 harg1 arg2 harg2 arg3 harg3 arg4 harg4 arg5 harg5 arg6 harg6 arg7 harg7 arg8 harg8 x0 x1 x2 x3 x4 x5 x6 x7 k]
  exact (congrArg (G9 i x0 x1 x2 x3 x4 x5 x6 x7) (emb9 k 2 r j _ hp)).symm

/-- Chunk 3 of a trip's gradient is that chunk of the block. -/
theorem dx3_G9 (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (y : S1x32x768.Idx) :
    dx3 (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) y = G9 i x0 x1 x2 x3 x4 x5 x6 x7 ((Rect.unit (s := S1x1024x768) (k0_off2 k (BitVec.ofNat 32 (32 * (3 : Fin 4).val))) S1x32x768.size (k0_off2_inb k 3)).emb y) := by
  obtain ⟨r, j, rfl⟩ : ∃ (r : Fin 32) (j : Fin 768), y = ix3 0 r j := ⟨y 1, y 2, by
    funext b; fin_cases b
    · exact Subsingleton.elim (α := Fin 1) _ _
    · rfl
    · rfl⟩
  have hp : (⟨96 + r.val, by omega⟩ : Fin 128).val = 32 * (3 : Fin 4).val + r.val := by simp
  rw [dx3_apply, vx_eq i arg1 harg1 arg2 harg2 arg3 harg3 arg4 harg4 arg5 harg5 arg6 harg6 arg7 harg7 arg8 harg8 x0 x1 x2 x3 x4 x5 x6 x7 k 3 r _ hp, vdy_eq i arg1 harg1 arg2 harg2 arg3 harg3 arg4 harg4 arg5 harg5 arg6 harg6 arg7 harg7 arg8 harg8 x0 x1 x2 x3 x4 x5 x6 x7 k 3 r _ hp, vdh_eq i arg1 harg1 arg2 harg2 arg3 harg3 arg4 harg4 arg5 harg5 arg6 harg6 arg7 harg7 arg8 harg8 x0 x1 x2 x3 x4 x5 x6 x7 k 3 r _ hp, vgam_eq i arg1 harg1 arg2 harg2 arg3 harg3 arg4 harg4 arg5 harg5 arg6 harg6 arg7 harg7 arg8 harg8 x0 x1 x2 x3 x4 x5 x6 x7 k]
  exact (congrArg (G9 i x0 x1 x2 x3 x4 x5 x6 x7) (emb9 k 3 r j _ hp)).symm

/-- A trip's partial sums are that slab of the block. -/
theorem sums_G11 (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (k : Fin k0_t1_loop.trips) (y : S1x1x3x768.Idx) :
    k0_pay4 (arg12.view.readCov (acc12 arg12 (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k)) rw0.toLoadRect) y = G11 i x0 x1 x2 x3 x4 x5 x6 x7 ((Rect.unit (s := S1x8x3x768) (k0_off3 k) S1x1x3x768.size (k0_off3_inb k)).emb y) := by
  obtain ⟨a, j, rfl⟩ : ∃ (a : Fin 3) (j : Fin 768), y = ix4 0 0 a j := ⟨y 2, y 3, by
    funext b; fin_cases b
    · exact Subsingleton.elim (α := Fin 1) _ _
    · exact Subsingleton.elim (α := Fin 1) _ _
    · rfl
    · rfl⟩
  rw [sums_apply arg12 (vals (F := Ideal) i arg1 arg2 arg3 arg5 arg6 arg7 arg8 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) k) (fun p => brow i x0 x4 (Spec.rowOf (tk k) p)) (fun p => brow i x1 x6 (Spec.rowOf (tk k) p)) (fun p => brow i x2 x7 (Spec.rowOf (tk k) p))
    (fun p j => x5 (ix3 0 (Spec.rowOf (tk k) p) j)) (fun q r p hp => vx_eq i arg1 harg1 arg2 harg2 arg3 harg3 arg4 harg4 arg5 harg5 arg6 harg6 arg7 harg7 arg8 harg8 x0 x1 x2 x3 x4 x5 x6 x7 k q r p hp) (fun q r p hp => vdy_eq i arg1 harg1 arg2 harg2 arg3 harg3 arg4 harg4 arg5 harg5 arg6 harg6 arg7 harg7 arg8 harg8 x0 x1 x2 x3 x4 x5 x6 x7 k q r p hp)
    (fun q r p hp => vdh_eq i arg1 harg1 arg2 harg2 arg3 harg3 arg4 harg4 arg5 harg5 arg6 harg6 arg7 harg7 arg8 harg8 x0 x1 x2 x3 x4 x5 x6 x7 k q r p hp) (fun q r p hp => vf_eq i arg1 harg1 arg2 harg2 arg3 harg3 arg4 harg4 arg5 harg5 arg6 harg6 arg7 harg7 arg8 harg8 x0 x1 x2 x3 x4 x5 x6 x7 k q r p hp) a j]
  exact (congrArg (G11 i x0 x1 x2 x3 x4 x5 x6 x7) (emb11 k a j)).symm

/-- Every gradient piece of the loop is a piece of the block `G9`, -/
theorem pieces9 (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) : ∀ (n : ℕ), n ≤ k0_t1_loop.trips → ∀ p ∈ (pb (F := Ideal) c i arg1 harg1 arg2 harg2 arg3 harg3 arg4 harg4 arg5 harg5 arg6 harg6 arg7 harg7 arg8 harg8 arg9 harg9 arg10 harg10 arg11 harg11 arg12 harg12 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) n).1, ∀ x : p.1.shape.Idx, p.2 x = G9 i x0 x1 x2 x3 x4 x5 x6 x7 (p.1.emb x)
  | 0, _, p, hp, x => by
    rw [pb.eq_1] at hp; exact absurd hp (List.not_mem_nil)
  | n + 1, hn, p, hp, x => by
    have hs := pb_succ (F := Ideal) c i arg1 harg1 arg2 harg2 arg3 harg3 arg4 harg4 arg5 harg5 arg6 harg6 arg7 harg7 arg8 harg8 arg9 harg9 arg10 harg10 arg11 harg11 arg12 harg12 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) ⟨n, hn⟩
    rw [show n + 1 = (⟨n, hn⟩ : Fin k0_t1_loop.trips).val + 1 from rfl, hs] at hp
    rcases List.mem_append.mp hp with h | h
    · rw [trip_1] at h
      simp only [List.mem_cons, List.not_mem_nil, or_false] at h
      rcases h with rfl | rfl | rfl | rfl
      · exact dx3_G9 i arg1 harg1 arg2 harg2 arg3 harg3 arg4 harg4 arg5 harg5 arg6 harg6 arg7 harg7 arg8 harg8 x0 x1 x2 x3 x4 x5 x6 x7 ⟨n, hn⟩ x
      · exact dx2_G9 i arg1 harg1 arg2 harg2 arg3 harg3 arg4 harg4 arg5 harg5 arg6 harg6 arg7 harg7 arg8 harg8 x0 x1 x2 x3 x4 x5 x6 x7 ⟨n, hn⟩ x
      · exact dx1_G9 i arg1 harg1 arg2 harg2 arg3 harg3 arg4 harg4 arg5 harg5 arg6 harg6 arg7 harg7 arg8 harg8 x0 x1 x2 x3 x4 x5 x6 x7 ⟨n, hn⟩ x
      · exact dx0_G9 i arg1 harg1 arg2 harg2 arg3 harg3 arg4 harg4 arg5 harg5 arg6 harg6 arg7 harg7 arg8 harg8 x0 x1 x2 x3 x4 x5 x6 x7 ⟨n, hn⟩ x
    · exact pieces9 x0 x1 x2 x3 x4 x5 x6 x7 n (Nat.le_of_succ_le hn) p h x

/-- and every piece of partial sums is a piece of the block `G11`. -/
theorem pieces11 (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) : ∀ (n : ℕ), n ≤ k0_t1_loop.trips → ∀ p ∈ (pb (F := Ideal) c i arg1 harg1 arg2 harg2 arg3 harg3 arg4 harg4 arg5 harg5 arg6 harg6 arg7 harg7 arg8 harg8 arg9 harg9 arg10 harg10 arg11 harg11 arg12 harg12 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) n).2, ∀ x : p.1.shape.Idx, p.2 x = G11 i x0 x1 x2 x3 x4 x5 x6 x7 (p.1.emb x)
  | 0, _, p, hp, x => by
    rw [pb.eq_1] at hp; exact absurd hp (List.not_mem_nil)
  | n + 1, hn, p, hp, x => by
    have hs := pb_succ (F := Ideal) c i arg1 harg1 arg2 harg2 arg3 harg3 arg4 harg4 arg5 harg5 arg6 harg6 arg7 harg7 arg8 harg8 arg9 harg9 arg10 harg10 arg11 harg11 arg12 harg12 (rowWord i) (arg4.view.readAt (Elt Ideal) (Rect.unit (s := S8x768) ![0, 0] S8x768.size inb_S8x768_S8x768_0_0).toLoadRect (harg4.unread x3)) (harg1.unread x0) (harg2.unread x1) (harg3.unread x2) (harg5.unread x4) (harg6.unread x5) (harg7.unread x6) (harg8.unread x7) ⟨n, hn⟩
    rw [show n + 1 = (⟨n, hn⟩ : Fin k0_t1_loop.trips).val + 1 from rfl, hs] at hp
    rcases List.mem_append.mp hp with h | h
    · rw [trip_2] at h
      simp only [List.mem_cons, List.not_mem_nil, or_false] at h
      rcases h with rfl
      exact sums_G11 i arg1 harg1 arg2 harg2 arg3 harg3 arg4 harg4 arg5 harg5 arg6 harg6 arg7 harg7 arg8 harg8 arg12 x0 x1 x2 x3 x4 x5 x6 x7 ⟨n, hn⟩ x
    · exact pieces11 x0 x1 x2 x3 x4 x5 x6 x7 n (Nat.le_of_succ_le hn) p h x

/-- What the body leaves in the gradient block, -/
theorem out9_eq (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) : out9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = G9 i x0 x1 x2 x3 x4 x5 x6 x7 := by
  funext y
  exact View.canon_apply_of_pieces (G9 i x0 x1 x2 x3 x4 x5 x6 x7) _ (fun p hp x => pieces9 c i arg1 harg1 arg2 harg2 arg3 harg3 arg4 harg4 arg5 harg5 arg6 harg6 arg7 harg7 arg8 harg8 arg9 harg9 arg10 harg10 arg11 harg11 arg12 harg12 x0 x1 x2 x3 x4 x5 x6 x7 _ (le_refl _) p hp x) y (cover9 c i arg1 harg1 arg2 harg2 arg3 harg3 arg4 harg4 arg5 harg5 arg6 harg6 arg7 harg7 arg8 harg8 arg9 harg9 arg10 harg10 arg11 harg11 arg12 harg12 x0 x1 x2 x3 x4 x5 x6 x7 y)

/-- in the block of partial sums, -/
theorem out11_eq (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) : out11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = G11 i x0 x1 x2 x3 x4 x5 x6 x7 := by
  funext y
  exact View.canon_apply_of_pieces (G11 i x0 x1 x2 x3 x4 x5 x6 x7) _ (fun p hp x => pieces11 c i arg1 harg1 arg2 harg2 arg3 harg3 arg4 harg4 arg5 harg5 arg6 harg6 arg7 harg7 arg8 harg8 arg9 harg9 arg10 harg10 arg11 harg11 arg12 harg12 x0 x1 x2 x3 x4 x5 x6 x7 _ (le_refl _) p hp x) y (cover11 c i arg1 harg1 arg2 harg2 arg3 harg3 arg4 harg4 arg5 harg5 arg6 harg6 arg7 harg7 arg8 harg8 arg9 harg9 arg10 harg10 arg11 harg11 arg12 harg12 x0 x1 x2 x3 x4 x5 x6 x7 y)

/-- and in the block of whole sums. -/
theorem out10_apply (x0 : Vec Ideal S8x1024 .f32) (x1 : Vec Ideal S8x1024 .f32) (x2 : Vec Ideal S8x1024 .f32) (x3 : Vec Ideal S8x768 .f32) (x4 : Vec Ideal S1x1024x768 .fp8e4m3) (x5 : Vec Ideal S1x1024x768 .bf16) (x6 : Vec Ideal S1x1024x768 .fp8e5m2) (x7 : Vec Ideal S1x1024x768 .fp8e5m2) (a : Fin 3) (j : Fin 768) : out10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 0 a j) = ∑ t : Fin 8, G11 i x0 x1 x2 x3 x4 x5 x6 x7 (ix4 0 t a j) := by
  unfold out10
  rw [out11_eq, pay5_apply]

end Cert.KernelIdeal.Hand
end
-- ==== Proof.KernelIdealValue.lean ====
module

public import Idealize.ShloMosaic.Lib.Pointwise
public import proofs.«01_k».proof.Proof.Spec
public import proofs.«01_k».proof.Proof.KernelIdealBody
public import proofs.«01_k».proof.Proof.KernelIdealFrame
public import Idealize.ShloMosaic.Lib.Pipeline.ValueKit.Geometry

public import Idealize.ShloMosaic.PureOps.IdealRules
public import Idealize.ShloMosaic.Lib.WholeRead

@[expose] public section

set_option maxRecDepth 16384
set_option maxHeartbeats 4000000

noncomputable section

namespace Cert.KernelIdeal.Hand

open Cert.KernelIdeal.Gen
open Idealize.ShloMosaic.Pipeline (Dat)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- The eight argument arrays of device `c`. -/
abbrev A0 (c : Dev nD) : Spec.Arr3 := m ((c.tc : Thread nD τ).loc main_arg0)
abbrev A1 (c : Dev nD) : Spec.ArrS := m ((c.tc : Thread nD τ).loc main_arg1)
abbrev A2 (c : Dev nD) : Spec.Arr3 := m ((c.tc : Thread nD τ).loc main_arg2)
abbrev A3 (c : Dev nD) : Spec.Arr3 := m ((c.tc : Thread nD τ).loc main_arg3)
abbrev A4 (c : Dev nD) : Spec.ArrS := m ((c.tc : Thread nD τ).loc main_arg4)
abbrev A5 (c : Dev nD) : Spec.Arr3 := m ((c.tc : Thread nD τ).loc main_arg5)
abbrev A6 (c : Dev nD) : Spec.ArrS := m ((c.tc : Thread nD τ).loc main_arg6)
abbrev A7 (c : Dev nD) : Spec.ArrM := m ((c.tc : Thread nD τ).loc main_arg7)

/-- The sample grid point `t` works on. -/
def smp (t : Fin cfg0.N) : Fin 112 := ⟨t.val, by have h : cfg0.N = 112 := N_0; have := t.isLt; omega⟩

theorem coords_val : ∀ t : Fin grid0.N, (grid0.coords t 0).val = t.val := by decide +kernel
theorem rowIx_val (t : Fin cfg0.N) : (rowIx (grid0.coords t)).val = t.val % 8 := congrArg (· % 8) (coords_val t)

/-! The block each window is on at each grid point. -/
theorem tf0 : ∀ t : Fin grid0.N, cc0_transform_0 (grid0.coords t) = ![t.val / 8, 0] := by decide +kernel
theorem tf1 : ∀ t : Fin grid0.N, cc0_transform_1 (grid0.coords t) = ![t.val / 8, 0] := by decide +kernel
theorem tf2 : ∀ t : Fin grid0.N, cc0_transform_2 (grid0.coords t) = ![t.val / 8, 0] := by decide +kernel
theorem tf3 : ∀ t : Fin grid0.N, cc0_transform_3 (grid0.coords t) = ![t.val / 8, 0] := by decide +kernel
theorem tf4 : ∀ t : Fin grid0.N, cc0_transform_4 (grid0.coords t) = ![t.val, 0, 0] := by decide +kernel
theorem tf5 : ∀ t : Fin grid0.N, cc0_transform_5 (grid0.coords t) = ![t.val, 0, 0] := by decide +kernel
theorem tf6 : ∀ t : Fin grid0.N, cc0_transform_6 (grid0.coords t) = ![t.val, 0, 0] := by decide +kernel
theorem tf7 : ∀ t : Fin grid0.N, cc0_transform_7 (grid0.coords t) = ![t.val, 0, 0] := by decide +kernel
theorem tf8 : ∀ t : Fin grid0.N, cc0_transform_8 (grid0.coords t) = ![t.val, 0, 0] := by decide +kernel
theorem tf9 : ∀ t : Fin grid0.N, cc0_transform_9 (grid0.coords t) = ![t.val, 0, 0] := by decide +kernel
theorem tf10 : ∀ t : Fin grid0.N, cc0_transform_10 (grid0.coords t) = ![t.val, 0, 0, 0] := by decide +kernel

/-! Each input block at an index: the sample's row of its array. -/
theorem iblk0 (c : Dev nD) (t : Fin cfg0.N) (n : Fin 1024) :
    iblk m c 0 t (ix2 (rowIx (grid0.coords t)) n : S8x1024.Idx) = A1 m c (ix2 (smp t) n) := by
  refine congrArg (A1 m c) ?_
  funext a; apply Fin.ext
  refine (ValueKit.view_emb_slice_whole_unit_val main_arg1 (fun a => cc0_transform_0 (grid0.coords t) a * S8x1024.size a) _ _ (ix2 (rowIx (grid0.coords t)) n : S8x1024.Idx) a).trans ?_
  refine (congrArg (fun z => z a * S8x1024.size a + _) (tf0 t)).trans ?_
  have h := rowIx_val t
  fin_cases a
  · simp [ix2, h, smp]; omega
  · simp [ix2]
theorem iblk1 (c : Dev nD) (t : Fin cfg0.N) (n : Fin 1024) :
    iblk m c 1 t (ix2 (rowIx (grid0.coords t)) n : S8x1024.Idx) = A4 m c (ix2 (smp t) n) := by
  refine congrArg (A4 m c) ?_
  funext a; apply Fin.ext
  refine (ValueKit.view_emb_slice_whole_unit_val main_arg4 (fun a => cc0_transform_1 (grid0.coords t) a * S8x1024.size a) _ _ (ix2 (rowIx (grid0.coords t)) n : S8x1024.Idx) a).trans ?_
  refine (congrArg (fun z => z a * S8x1024.size a + _) (tf1 t)).trans ?_
  have h := rowIx_val t
  fin_cases a
  · simp [ix2, h, smp]; omega
  · simp [ix2]
theorem iblk2 (c : Dev nD) (t : Fin cfg0.N) (n : Fin 1024) :
    iblk m c 2 t (ix2 (rowIx (grid0.coords t)) n : S8x1024.Idx) = A6 m c (ix2 (smp t) n) := by
  refine congrArg (A6 m c) ?_
  funext a; apply Fin.ext
  refine (ValueKit.view_emb_slice_whole_unit_val main_arg6 (fun a => cc0_transform_2 (grid0.coords t) a * S8x1024.size a) _ _ (ix2 (rowIx (grid0.coords t)) n : S8x1024.Idx) a).trans ?_
  refine (congrArg (fun z => z a * S8x1024.size a + _) (tf2 t)).trans ?_
  have h := rowIx_val t
  fin_cases a
  · simp [ix2, h, smp]; omega
  · simp [ix2]
theorem iblk3 (c : Dev nD) (t : Fin cfg0.N) (n : Fin 768) :
    iblk m c 3 t (ix2 (rowIx (grid0.coords t)) n : S8x768.Idx) = A7 m c (ix2 (smp t) n) := by
  refine congrArg (A7 m c) ?_
  funext a; apply Fin.ext
  refine (ValueKit.view_emb_slice_whole_unit_val main_arg7 (fun a => cc0_transform_3 (grid0.coords t) a * S8x768.size a) _ _ (ix2 (rowIx (grid0.coords t)) n : S8x768.Idx) a).trans ?_
  refine (congrArg (fun z => z a * S8x768.size a + _) (tf3 t)).trans ?_
  have h := rowIx_val t
  fin_cases a
  · simp [ix2, h, smp]; omega
  · simp [ix2]
theorem iblk4 (c : Dev nD) (t : Fin cfg0.N) (n : Fin 1024) (k : Fin 768) :
    iblk m c 4 t (ix3 0 n k : S1x1024x768.Idx) = A0 m c (ix3 (smp t) n k) := by
  refine congrArg (A0 m c) ?_
  funext a; apply Fin.ext
  refine (ValueKit.view_emb_slice_whole_unit_val main_arg0 (fun a => cc0_transform_4 (grid0.coords t) a * S1x1024x768.size a) _ _ (ix3 0 n k : S1x1024x768.Idx) a).trans ?_
  refine (congrArg (fun z => z a * S1x1024x768.size a + _) (tf4 t)).trans ?_
  fin_cases a <;> simp [ix3, smp]
theorem iblk5 (c : Dev nD) (t : Fin cfg0.N) (n : Fin 1024) (k : Fin 768) :
    iblk m c 5 t (ix3 0 n k : S1x1024x768.Idx) = A2 m c (ix3 (smp t) n k) := by
  refine congrArg (A2 m c) ?_
  funext a; apply Fin.ext
  refine (ValueKit.view_emb_slice_whole_unit_val main_arg2 (fun a => cc0_transform_5 (grid0.coords t) a * S1x1024x768.size a) _ _ (ix3 0 n k : S1x1024x768.Idx) a).trans ?_
  refine (congrArg (fun z => z a * S1x1024x768.size a + _) (tf5 t)).trans ?_
  fin_cases a <;> simp [ix3, smp]
theorem iblk6 (c : Dev nD) (t : Fin cfg0.N) (n : Fin 1024) (k : Fin 768) :
    iblk m c 6 t (ix3 0 n k : S1x1024x768.Idx) = A3 m c (ix3 (smp t) n k) := by
  refine congrArg (A3 m c) ?_
  funext a; apply Fin.ext
  refine (ValueKit.view_emb_slice_whole_unit_val main_arg3 (fun a => cc0_transform_6 (grid0.coords t) a * S1x1024x768.size a) _ _ (ix3 0 n k : S1x1024x768.Idx) a).trans ?_
  refine (congrArg (fun z => z a * S1x1024x768.size a + _) (tf6 t)).trans ?_
  fin_cases a <;> simp [ix3, smp]
theorem iblk7 (c : Dev nD) (t : Fin cfg0.N) (n : Fin 1024) (k : Fin 768) :
    iblk m c 7 t (ix3 0 n k : S1x1024x768.Idx) = A5 m c (ix3 (smp t) n k) := by
  refine congrArg (A5 m c) ?_
  funext a; apply Fin.ext
  refine (ValueKit.view_emb_slice_whole_unit_val main_arg5 (fun a => cc0_transform_7 (grid0.coords t) a * S1x1024x768.size a) _ _ (ix3 0 n k : S1x1024x768.Idx) a).trans ?_
  refine (congrArg (fun z => z a * S1x1024x768.size a + _) (tf7 t)).trans ?_
  fin_cases a <;> simp [ix3, smp]

/-- The rows of the blocks are the rows of the arrays. -/
theorem rowX (c : Dev nD) (t : Fin cfg0.N) (n : Fin 1024) : brow (grid0.coords t) (iblk m c 0 t) (iblk m c 4 t) n = Spec.row (A0 m c) (A1 m c) (smp t) n := by
  funext k; unfold brow Spec.row
  exact congrArg₂ (fun a b : EReal => a * b) (iblk4 m c t n k) (iblk0 m c t n)
theorem rowY (c : Dev nD) (t : Fin cfg0.N) (n : Fin 1024) : brow (grid0.coords t) (iblk m c 1 t) (iblk m c 6 t) n = Spec.row (A3 m c) (A4 m c) (smp t) n := by
  funext k; unfold brow Spec.row
  exact congrArg₂ (fun a b : EReal => a * b) (iblk6 m c t n k) (iblk1 m c t n)
theorem rowH (c : Dev nD) (t : Fin cfg0.N) (n : Fin 1024) : brow (grid0.coords t) (iblk m c 2 t) (iblk m c 7 t) n = Spec.row (A5 m c) (A6 m c) (smp t) n := by
  funext k; unfold brow Spec.row
  exact congrArg₂ (fun a b : EReal => a * b) (iblk7 m c t n k) (iblk2 m c t n)
theorem rowG (c : Dev nD) (t : Fin cfg0.N) : bgain (grid0.coords t) (iblk m c 3 t) = Spec.gain (A7 m c) (smp t) := by
  funext k; unfold bgain Spec.gain
  exact congrArg (fun a : EReal => 1 + a) (iblk3 m c t k)

/-- The three results of device `c`, as functions of its arguments. -/
def res0 (c : Dev nD) : Buf (Elt Ideal) ((c.tc : Thread nD τ).loc main_v0_0) := fun (y : S112x1024x768.Idx) =>
  Spec.dx (A0 m c) (A1 m c) (A3 m c) (A4 m c) (A5 m c) (A6 m c) (A7 m c) (y 0) (y 1) (y 2)
def res1 (c : Dev nD) : Buf (Elt Ideal) ((c.tc : Thread nD τ).loc main_v0_1) := fun (y : S112x3x768.Idx) =>
  Spec.dmod (A0 m c) (A1 m c) (A2 m c) (A3 m c) (A4 m c) (A5 m c) (A6 m c) (y 0) (y 1) (y 2)
def res2 (c : Dev nD) : Buf (Elt Ideal) ((c.tc : Thread nD τ).loc main_v0_2) := fun (y : S112x8x3x768.Idx) =>
  Spec.blk (A0 m c) (A1 m c) (A2 m c) (A3 m c) (A4 m c) (A5 m c) (A6 m c) (y 0) (y 1) (y 2) (y 3)

/-- The partial-sum block at a point is the sample's slab of the partial sums. -/
theorem G11_eq (c : Dev nD) (t : Fin cfg0.N) (s : Fin 8) (a : Fin 3) (j : Fin 768) :
    G11 (grid0.coords t) (iblk m c 0 t) (iblk m c 1 t) (iblk m c 2 t) (iblk m c 3 t) (iblk m c 4 t) (iblk m c 5 t) (iblk m c 6 t) (iblk m c 7 t) (ix4 0 s a j)
      = Spec.blk (A0 m c) (A1 m c) (A2 m c) (A3 m c) (A4 m c) (A5 m c) (A6 m c) (smp t) s a j := by
  unfold Spec.blk
  refine Finset.sum_congr rfl fun p _ => ?_
  have e5 : (fun k => iblk m c 5 t (ix3 0 (Spec.rowOf s p) k : S1x1024x768.Idx)) = fun k => A2 m c (ix3 (smp t) (Spec.rowOf s p) k) :=
    funext fun k => iblk5 m c t (Spec.rowOf s p) k
  show Spec.term a (brow (grid0.coords t) (iblk m c 0 t) (iblk m c 4 t) (Spec.rowOf s p)) (brow (grid0.coords t) (iblk m c 1 t) (iblk m c 6 t) (Spec.rowOf s p))
    (brow (grid0.coords t) (iblk m c 2 t) (iblk m c 7 t) (Spec.rowOf s p)) (fun k => iblk m c 5 t (ix3 0 (Spec.rowOf s p) k : S1x1024x768.Idx)) j = _
  rw [rowX, rowY, rowH, e5]

/-- Where result 0's block at point `t` puts an index. -/
theorem embo8 (t : Fin cfg0.N) (n : Fin 1024) (j : Fin 768) :
    (((cfg0.win 8).blk t).view.emb (ix3 0 n j : S1x1024x768.Idx) : S112x1024x768.Idx) = ix3 (smp t) n j := by
  funext b; apply Fin.ext
  refine (ValueKit.view_emb_slice_whole_unit_val main_v0_0 (fun a => cc0_transform_8 (grid0.coords t) a * S1x1024x768.size a) _ _ (ix3 0 n j : S1x1024x768.Idx) b).trans ?_
  refine (congrArg (fun z => z b * S1x1024x768.size b + _) (tf8 t)).trans ?_
  fin_cases b <;> simp [ix3, smp]

/-- What point `t` writes back is its block of the result. -/
theorem flushed8 (c : Dev nD) (t : Fin cfg0.N) : (dats m 0 c).flushed 8 t = ((cfg0.win 8).blk t).view.read (Elt Ideal) (res0 m c) := by
  show (cfg0.win 8).cut (grid0.coords t) ((dats m 0 c).after 8 t) = _
  rw [after_8]
  funext (y : S1x1024x768.Idx)
  obtain ⟨n, j, rfl⟩ : ∃ (n : Fin 1024) (j : Fin 768), y = ix3 0 n j := ⟨y 1, y 2, by
    funext b; fin_cases b
    · exact Subsingleton.elim (α := Fin 1) _ _
    · rfl
    · rfl⟩
  refine Eq.trans ?_ (congrArg (res0 m c) (embo8 t n j)).symm
  show out9At m c t (ix3 0 n j : S1x1024x768.Idx) = _
  unfold out9At
  rw [out9_eq]
  show Spec.dxRow (brow (grid0.coords t) (iblk m c 0 t) (iblk m c 4 t) n) (brow (grid0.coords t) (iblk m c 1 t) (iblk m c 6 t) n)
    (brow (grid0.coords t) (iblk m c 2 t) (iblk m c 7 t) n) (bgain (grid0.coords t) (iblk m c 3 t)) j = _
  rw [rowX, rowY, rowH, rowG]
  rfl

/-- Every index of result 0 is in some point's block. -/
theorem covero8 (y : S112x1024x768.Idx) : ∃ t : Fin cfg0.N, (cfg0.win 8).flush t = true ∧ y ∈ ((cfg0.win 8).blk t).view.set := by
  have hN : cfg0.N = 112 := N_0
  have h0 : (y 0 : ℕ) < 112 := (y 0).isLt
  let t : Fin cfg0.N := ⟨(y 0 : ℕ), by omega⟩
  refine ⟨t, flush0_8 _, ?_⟩
  have e : y = (((cfg0.win 8).blk t).view.emb (ix3 0 (y 1) (y 2) : S1x1024x768.Idx) : S112x1024x768.Idx) := by
    refine Eq.trans ?_ (embo8 t (y 1) (y 2)).symm
    funext b; fin_cases b
    · rfl
    · rfl
    · rfl
  rw [e]
  exact View.emb_mem_set _ _

/-- Result 0 at the end. -/
theorem final8 (c : Dev nD) : (dats m 0 c).arrAt 8 cfg0.N = res0 m c :=
  (dats m 0 c).arrAt_eq_of_cover 8 (res0 m c) (fun t _ => flushed8 m c t) covero8

/-- Where result 1's block at point `t` puts an index. -/
theorem embo9 (t : Fin cfg0.N) (a : Fin 3) (j : Fin 768) :
    (((cfg0.win 9).blk t).view.emb (ix3 0 a j : S1x3x768.Idx) : S112x3x768.Idx) = ix3 (smp t) a j := by
  funext b; apply Fin.ext
  refine (ValueKit.view_emb_slice_whole_unit_val main_v0_1 (fun a => cc0_transform_9 (grid0.coords t) a * S1x3x768.size a) _ _ (ix3 0 a j : S1x3x768.Idx) b).trans ?_
  refine (congrArg (fun z => z b * S1x3x768.size b + _) (tf9 t)).trans ?_
  fin_cases b <;> simp [ix3, smp]

/-- What point `t` writes back is its block of the result. -/
theorem flushed9 (c : Dev nD) (t : Fin cfg0.N) : (dats m 0 c).flushed 9 t = ((cfg0.win 9).blk t).view.read (Elt Ideal) (res1 m c) := by
  show (cfg0.win 9).cut (grid0.coords t) ((dats m 0 c).after 9 t) = _
  rw [after_9]
  funext (y : S1x3x768.Idx)
  obtain ⟨a, j, rfl⟩ : ∃ (a : Fin 3) (j : Fin 768), y = ix3 0 a j := ⟨y 1, y 2, by
    funext b; fin_cases b
    · exact Subsingleton.elim (α := Fin 1) _ _
    · rfl
    · rfl⟩
  refine Eq.trans ?_ (congrArg (res1 m c) (embo9 t a j)).symm
  show out10At m c t (ix3 0 a j : S1x3x768.Idx) = _
  unfold out10At
  rw [out10_apply]
  exact Finset.sum_congr rfl fun s _ => G11_eq m c t s a j

/-- Every index of result 1 is in some point's block. -/
theorem covero9 (y : S112x3x768.Idx) : ∃ t : Fin cfg0.N, (cfg0.win 9).flush t = true ∧ y ∈ ((cfg0.win 9).blk t).view.set := by
  have hN : cfg0.N = 112 := N_0
  have h0 : (y 0 : ℕ) < 112 := (y 0).isLt
  let t : Fin cfg0.N := ⟨(y 0 : ℕ), by omega⟩
  refine ⟨t, flush0_9 _, ?_⟩
  have e : y = (((cfg0.win 9).blk t).view.emb (ix3 0 (y 1) (y 2) : S1x3x768.Idx) : S112x3x768.Idx) := by
    refine Eq.trans ?_ (embo9 t (y 1) (y 2)).symm
    funext b; fin_cases b
    · rfl
    · rfl
    · rfl
  rw [e]
  exact View.emb_mem_set _ _

/-- Result 1 at the end. -/
theorem final9 (c : Dev nD) : (dats m 0 c).arrAt 9 cfg0.N = res1 m c :=
  (dats m 0 c).arrAt_eq_of_cover 9 (res1 m c) (fun t _ => flushed9 m c t) covero9

/-- Where result 2's block at point `t` puts an index. -/
theorem embo10 (t : Fin cfg0.N) (s : Fin 8) (a : Fin 3) (j : Fin 768) :
    (((cfg0.win 10).blk t).view.emb (ix4 0 s a j : S1x8x3x768.Idx) : S112x8x3x768.Idx) = ix4 (smp t) s a j := by
  funext b; apply Fin.ext
  refine (ValueKit.view_emb_slice_whole_unit_val main_v0_2 (fun a => cc0_transform_10 (grid0.coords t) a * S1x8x3x768.size a) _ _ (ix4 0 s a j : S1x8x3x768.Idx) b).trans ?_
  refine (congrArg (fun z => z b * S1x8x3x768.size b + _) (tf10 t)).trans ?_
  fin_cases b <;> simp [ix4, smp]

/-- What point `t` writes back is its block of the result. -/
theorem flushed10 (c : Dev nD) (t : Fin cfg0.N) : (dats m 0 c).flushed 10 t = ((cfg0.win 10).blk t).view.read (Elt Ideal) (res2 m c) := by
  show (cfg0.win 10).cut (grid0.coords t) ((dats m 0 c).after 10 t) = _
  rw [after_10]
  funext (y : S1x8x3x768.Idx)
  obtain ⟨s, a, j, rfl⟩ : ∃ (s : Fin 8) (a : Fin 3) (j : Fin 768), y = ix4 0 s a j := ⟨y 1, y 2, y 3, by
    funext b; fin_cases b
    · exact Subsingleton.elim (α := Fin 1) _ _
    · rfl
    · rfl
    · rfl⟩
  refine Eq.trans ?_ (congrArg (res2 m c) (embo10 t s a j)).symm
  show out11At m c t (ix4 0 s a j : S1x8x3x768.Idx) = _
  unfold out11At
  rw [out11_eq]
  exact G11_eq m c t s a j

/-- Every index of result 2 is in some point's block. -/
theorem covero10 (y : S112x8x3x768.Idx) : ∃ t : Fin cfg0.N, (cfg0.win 10).flush t = true ∧ y ∈ ((cfg0.win 10).blk t).view.set := by
  have hN : cfg0.N = 112 := N_0
  have h0 : (y 0 : ℕ) < 112 := (y 0).isLt
  let t : Fin cfg0.N := ⟨(y 0 : ℕ), by omega⟩
  refine ⟨t, flush0_10 _, ?_⟩
  have e : y = (((cfg0.win 10).blk t).view.emb (ix4 0 (y 1) (y 2) (y 3) : S1x8x3x768.Idx) : S112x8x3x768.Idx) := by
    refine Eq.trans ?_ (embo10 t (y 1) (y 2) (y 3)).symm
    funext b; fin_cases b
    · rfl
    · rfl
    · rfl
    · rfl
  rw [e]
  exact View.emb_mem_set _ _

/-- Result 2 at the end. -/
theorem final10 (c : Dev nD) : (dats m 0 c).arrAt 10 cfg0.N = res2 m c :=
  (dats m 0 c).arrAt_eq_of_cover 10 (res2 m c) (fun t _ => flushed10 m c t) covero10

/-- The run: the three results at the stated functions of the arguments, the arguments unchanged. -/
theorem run : θ_run defs (onTc (τ := τ) (main (F := Ideal))) ⟨m, fun _ => 0, ρ⟩ fun r => ∀ c : Dev nD,
      r.2.mem ((c.tc : Thread nD τ).loc main_v0_0) = res0 m c ∧ r.2.mem ((c.tc : Thread nD τ).loc main_v0_1) = res1 m c ∧ r.2.mem ((c.tc : Thread nD τ).loc main_v0_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (final8 m c), ((h c).1 9).trans (final9 m c), ((h c).1 10).trans (final10 m c), ((h c).1 4).trans ((dats m 0 c).arrAt_in 4 rfl _), ((h c).1 0).trans ((dats m 0 c).arrAt_in 0 rfl _), ((h c).1 5).trans ((dats m 0 c).arrAt_in 5 rfl _), ((h c).1 6).trans ((dats m 0 c).arrAt_in 6 rfl _), ((h c).1 1).trans ((dats m 0 c).arrAt_in 1 rfl _), ((h c).1 7).trans ((dats m 0 c).arrAt_in 7 rfl _), ((h c).1 2).trans ((dats m 0 c).arrAt_in 2 rfl _), ((h c).1 3).trans ((dats m 0 c).arrAt_in 3 rfl _)⟩)
    (run_main m ρ)

end Cert.KernelIdeal.Hand
end
-- ==== Proof.ReferenceIdealValue.lean ====
module

public import Idealize.ShloMosaic.Lib.Pointwise
public import Idealize.ShloMosaic.Lib.Pipeline.Value
public import Idealize.ShloMosaic.Lib.Pipeline.ValueKit.Geometry
public import proofs.«01_k».proof.Proof.Spec
public import proofs.«01_k».proof.Proof.Gen.ReferenceIdeal.Frame

@[expose] public section

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

/-- Dividing by the row length is multiplying by its reciprocal. -/
theorem div768 (s : EReal) : Ideal.div s (Ideal.ofBits .f32 0x44400000#32) = s * Spec.invD := by
  have h : Ideal.ofBits .f32 0x44400000#32 = ((768 : ℝ) : EReal) := by
    simp [Ideal.ofBits, Ideal.ieee, -EReal.coe_mul]; norm_num
  rw [h]; exact Ideal.div_coe (by norm_num : (768 : ℝ) ≠ 0) s

/-- The gradient, at an index. -/
theorem pay10_apply (x0 : Vec Ideal S112x1024x768 .fp8e4m3) (x1 : Vec Ideal S112x1024 .f32) (x2 : Vec Ideal S112x1024x768 .bf16) (x3 : Vec Ideal S112x1024x768 .fp8e5m2) (x4 : Vec Ideal S112x1024 .f32) (x5 : Vec Ideal S112x1024x768 .fp8e5m2) (x6 : Vec Ideal S112x1024 .f32) (x7 : Vec Ideal S112x768 .f32) (b : Fin 112) (n : Fin 1024) (j : Fin 768) :
    k0_pay10 (k0_pay1 x3 x4) (k0_pay2 x5 x6) (k0_pay4 x0 x1) (k0_pay5 x0 x1) x7 (ix3 b n j) = Spec.dx x0 x1 x3 x4 x5 x6 x7 b n j := by
  pointwise [k0_pay10, k0_pay1, k0_pay2, k0_pay4, k0_pay5, k0_pay3]
  simp only [div768]
  rfl

/-- The partial sums, at an index. -/
theorem pay8_apply (x0 : Vec Ideal S112x1024x768 .fp8e4m3) (x1 : Vec Ideal S112x1024 .f32) (x2 : Vec Ideal S112x1024x768 .bf16) (x3 : Vec Ideal S112x1024x768 .fp8e5m2) (x4 : Vec Ideal S112x1024 .f32) (x5 : Vec Ideal S112x1024x768 .fp8e5m2) (x6 : Vec Ideal S112x1024 .f32) (x7 : Vec Ideal S112x768 .f32) (b : Fin 112) (t : Fin 8) (a : Fin 3) (j : Fin 768) :
    k0_pay8 (k0_pay1 x3 x4) (k0_pay6 x5 x6) (k0_pay7 x0 x1 x5 x6) x2 (ix4 b t a j) = Spec.blk x0 x1 x2 x3 x4 x5 x6 b t a j := by
  have h0 : k0_pay8 (k0_pay1 x3 x4) (k0_pay6 x5 x6) (k0_pay7 x0 x1 x5 x6) x2 (ix4 b t 0 j) = Spec.blk x0 x1 x2 x3 x4 x5 x6 b t 0 j := by
    pointwise [k0_pay8, k0_pay1, k0_pay6, k0_pay7, k0_pay2, k0_pay4, k0_pay5, k0_pay3]
    rfl
  have h1 : k0_pay8 (k0_pay1 x3 x4) (k0_pay6 x5 x6) (k0_pay7 x0 x1 x5 x6) x2 (ix4 b t 1 j) = Spec.blk x0 x1 x2 x3 x4 x5 x6 b t 1 j := by
    pointwise [k0_pay8, k0_pay1, k0_pay6, k0_pay7, k0_pay2, k0_pay4, k0_pay5, k0_pay3]
    simp only [div768]
    rfl
  have h2 : k0_pay8 (k0_pay1 x3 x4) (k0_pay6 x5 x6) (k0_pay7 x0 x1 x5 x6) x2 (ix4 b t 2 j) = Spec.blk x0 x1 x2 x3 x4 x5 x6 b t 2 j := by
    pointwise [k0_pay8, k0_pay1, k0_pay6, k0_pay7, k0_pay2, k0_pay4, k0_pay5, k0_pay3]
    rfl
  fin_cases a
  · exact h0
  · exact h1
  · exact h2

/-- The whole sums, at an index. -/
theorem pay9_apply (x0 : Vec Ideal S112x1024x768 .fp8e4m3) (x1 : Vec Ideal S112x1024 .f32) (x2 : Vec Ideal S112x1024x768 .bf16) (x3 : Vec Ideal S112x1024x768 .fp8e5m2) (x4 : Vec Ideal S112x1024 .f32) (x5 : Vec Ideal S112x1024x768 .fp8e5m2) (x6 : Vec Ideal S112x1024 .f32) (x7 : Vec Ideal S112x768 .f32) (b : Fin 112) (a : Fin 3) (j : Fin 768) :
    k0_pay9 (k0_pay1 x3 x4) (k0_pay6 x5 x6) (k0_pay7 x0 x1 x5 x6) x2 (ix3 b a j) = Spec.dmod x0 x1 x2 x3 x4 x5 x6 b a j := by
  have h : k0_pay9 (k0_pay1 x3 x4) (k0_pay6 x5 x6) (k0_pay7 x0 x1 x5 x6) x2 (ix3 b a j)
      = ∑ t : Fin 8, k0_pay8 (k0_pay1 x3 x4) (k0_pay6 x5 x6) (k0_pay7 x0 x1 x5 x6) x2 (ix4 b t a j) := by
    pointwise [k0_pay9]
  rw [h]
  exact Finset.sum_congr rfl fun t _ => pay8_apply x0 x1 x2 x3 x4 x5 x6 x7 b t a j

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-! What the body leaves in each output, at an index. -/
theorem out8_apply (x0 : Vec Ideal S112x1024x768 .fp8e4m3) (x1 : Vec Ideal S112x1024 .f32) (x2 : Vec Ideal S112x1024x768 .bf16) (x3 : Vec Ideal S112x1024x768 .fp8e5m2) (x4 : Vec Ideal S112x1024 .f32) (x5 : Vec Ideal S112x1024x768 .fp8e5m2) (x6 : Vec Ideal S112x1024 .f32) (x7 : Vec Ideal S112x768 .f32) (b : Fin 112) (n : Fin 1024) (j : Fin 768) : out0_8 x0 x1 x2 x3 x4 x5 x6 x7 (ix3 b n j) = Spec.dx x0 x1 x3 x4 x5 x6 x7 b n j := by
  unfold out0_8 k0_pay11 r0_0 r0_1 r0_2
  rw [View.canon_unit_zero (S := S112x1024x768) hz3, View.ld_unit_zero (S := S112x1024x768) hz3, View.ld_unit_zero (S := S112x1024x768) hz3, View.ld_unit_zero (S := S112x1024x768) hz3,
    View.ld_unit_zero (S := S112x1024) hz2, View.ld_unit_zero (S := S112x1024) hz2, View.ld_unit_zero (S := S112x1024) hz2, View.ld_unit_zero (S := S112x768) hz2]
  exact pay10_apply x0 x1 x2 x3 x4 x5 x6 x7 b n j
theorem out9_apply (x0 : Vec Ideal S112x1024x768 .fp8e4m3) (x1 : Vec Ideal S112x1024 .f32) (x2 : Vec Ideal S112x1024x768 .bf16) (x3 : Vec Ideal S112x1024x768 .fp8e5m2) (x4 : Vec Ideal S112x1024 .f32) (x5 : Vec Ideal S112x1024x768 .fp8e5m2) (x6 : Vec Ideal S112x1024 .f32) (x7 : Vec Ideal S112x768 .f32) (b : Fin 112) (a : Fin 3) (j : Fin 768) : out0_9 x0 x1 x2 x3 x4 x5 x6 x7 (ix3 b a j) = Spec.dmod x0 x1 x2 x3 x4 x5 x6 b a j := by
  unfold out0_9 k0_pay11 k0_pay12 k0_pay13 r0_0 r0_1 r0_3
  rw [View.canon_unit_zero (S := S112x3x768) hz3, View.ld_unit_zero (S := S112x1024x768) hz3, View.ld_unit_zero (S := S112x1024x768) hz3, View.ld_unit_zero (S := S112x1024x768) hz3, View.ld_unit_zero (S := S112x1024x768) hz3,
    View.ld_unit_zero (S := S112x1024) hz2, View.ld_unit_zero (S := S112x1024) hz2, View.ld_unit_zero (S := S112x1024) hz2]
  exact pay9_apply x0 x1 x2 x3 x4 x5 x6 x7 b a j
theorem out10_apply (x0 : Vec Ideal S112x1024x768 .fp8e4m3) (x1 : Vec Ideal S112x1024 .f32) (x2 : Vec Ideal S112x1024x768 .bf16) (x3 : Vec Ideal S112x1024x768 .fp8e5m2) (x4 : Vec Ideal S112x1024 .f32) (x5 : Vec Ideal S112x1024x768 .fp8e5m2) (x6 : Vec Ideal S112x1024 .f32) (x7 : Vec Ideal S112x768 .f32) (b : Fin 112) (t : Fin 8) (a : Fin 3) (j : Fin 768) : out0_10 x0 x1 x2 x3 x4 x5 x6 x7 (ix4 b t a j) = Spec.blk x0 x1 x2 x3 x4 x5 x6 b t a j := by
  unfold out0_10 k0_pay11 k0_pay12 k0_pay13 r0_0 r0_1 r0_4
  rw [View.canon_unit_zero (S := S112x8x3x768) hz4, View.ld_unit_zero (S := S112x1024x768) hz3, View.ld_unit_zero (S := S112x1024x768) hz3, View.ld_unit_zero (S := S112x1024x768) hz3, View.ld_unit_zero (S := S112x1024x768) hz3,
    View.ld_unit_zero (S := S112x1024) hz2, View.ld_unit_zero (S := S112x1024) hz2, View.ld_unit_zero (S := S112x1024) hz2]
  exact pay8_apply x0 x1 x2 x3 x4 x5 x6 x7 b t a j

variable (m : (ℓ : Loc nD τ sig) → Buf (Elt Ideal) ℓ) (ρ : Dev nD → PrngReg)

/-- The eight argument arrays of device `c`. -/
abbrev A0 (c : Dev nD) : Spec.Arr3 := m ((c.tc : Thread nD τ).loc main_arg0)
abbrev A1 (c : Dev nD) : Spec.ArrS := m ((c.tc : Thread nD τ).loc main_arg1)
abbrev A2 (c : Dev nD) : Spec.Arr3 := m ((c.tc : Thread nD τ).loc main_arg2)
abbrev A3 (c : Dev nD) : Spec.Arr3 := m ((c.tc : Thread nD τ).loc main_arg3)
abbrev A4 (c : Dev nD) : Spec.ArrS := m ((c.tc : Thread nD τ).loc main_arg4)
abbrev A5 (c : Dev nD) : Spec.Arr3 := m ((c.tc : Thread nD τ).loc main_arg5)
abbrev A6 (c : Dev nD) : Spec.ArrS := m ((c.tc : Thread nD τ).loc main_arg6)
abbrev A7 (c : Dev nD) : Spec.ArrM := m ((c.tc : Thread nD τ).loc main_arg7)

/-! The one point's block of each window starts at the origin. -/
theorem tf0 : ∀ t : Fin grid0.N, win0_0.index t = fun _ => 0 := by decide +kernel
theorem tf1 : ∀ t : Fin grid0.N, win0_1.index t = fun _ => 0 := by decide +kernel
theorem tf2 : ∀ t : Fin grid0.N, win0_2.index t = fun _ => 0 := by decide +kernel
theorem tf3 : ∀ t : Fin grid0.N, win0_3.index t = fun _ => 0 := by decide +kernel
theorem tf4 : ∀ t : Fin grid0.N, win0_4.index t = fun _ => 0 := by decide +kernel
theorem tf5 : ∀ t : Fin grid0.N, win0_5.index t = fun _ => 0 := by decide +kernel
theorem tf6 : ∀ t : Fin grid0.N, win0_6.index t = fun _ => 0 := by decide +kernel
theorem tf7 : ∀ t : Fin grid0.N, win0_7.index t = fun _ => 0 := by decide +kernel
theorem tf8 : ∀ t : Fin grid0.N, win0_8.index t = fun _ => 0 := by decide +kernel
theorem tf9 : ∀ t : Fin grid0.N, win0_9.index t = fun _ => 0 := by decide +kernel
theorem tf10 : ∀ t : Fin grid0.N, win0_10.index t = fun _ => 0 := by decide +kernel

/-! Each input block is its whole array. -/
theorem iblk0 (c : Dev nD) (t : Fin cfg0.N) : iblk m c 0 t = A0 m c := by
  funext (y : S112x1024x768.Idx)
  refine congrArg (A0 m c) ?_
  funext a; apply Fin.ext
  refine (ValueKit.view_emb_slice_whole_unit_val main_arg0 (fun a => win0_0.index t a * S112x1024x768.size a) _ _ y a).trans ?_
  refine (congrArg (fun z => z a * S112x1024x768.size a + _) (tf0 t)).trans ?_
  simp
theorem iblk1 (c : Dev nD) (t : Fin cfg0.N) : iblk m c 1 t = A1 m c := by
  funext (y : S112x1024.Idx)
  refine congrArg (A1 m c) ?_
  funext a; apply Fin.ext
  refine (ValueKit.view_emb_slice_whole_unit_val main_arg1 (fun a => win0_1.index t a * S112x1024.size a) _ _ y a).trans ?_
  refine (congrArg (fun z => z a * S112x1024.size a + _) (tf1 t)).trans ?_
  simp
theorem iblk2 (c : Dev nD) (t : Fin cfg0.N) : iblk m c 2 t = A2 m c := by
  funext (y : S112x1024x768.Idx)
  refine congrArg (A2 m c) ?_
  funext a; apply Fin.ext
  refine (ValueKit.view_emb_slice_whole_unit_val main_arg2 (fun a => win0_2.index t a * S112x1024x768.size a) _ _ y a).trans ?_
  refine (congrArg (fun z => z a * S112x1024x768.size a + _) (tf2 t)).trans ?_
  simp
theorem iblk3 (c : Dev nD) (t : Fin cfg0.N) : iblk m c 3 t = A3 m c := by
  funext (y : S112x1024x768.Idx)
  refine congrArg (A3 m c) ?_
  funext a; apply Fin.ext
  refine (ValueKit.view_emb_slice_whole_unit_val main_arg3 (fun a => win0_3.index t a * S112x1024x768.size a) _ _ y a).trans ?_
  refine (congrArg (fun z => z a * S112x1024x768.size a + _) (tf3 t)).trans ?_
  simp
theorem iblk4 (c : Dev nD) (t : Fin cfg0.N) : iblk m c 4 t = A4 m c := by
  funext (y : S112x1024.Idx)
  refine congrArg (A4 m c) ?_
  funext a; apply Fin.ext
  refine (ValueKit.view_emb_slice_whole_unit_val main_arg4 (fun a => win0_4.index t a * S112x1024.size a) _ _ y a).trans ?_
  refine (congrArg (fun z => z a * S112x1024.size a + _) (tf4 t)).trans ?_
  simp
theorem iblk5 (c : Dev nD) (t : Fin cfg0.N) : iblk m c 5 t = A5 m c := by
  funext (y : S112x1024x768.Idx)
  refine congrArg (A5 m c) ?_
  funext a; apply Fin.ext
  refine (ValueKit.view_emb_slice_whole_unit_val main_arg5 (fun a => win0_5.index t a * S112x1024x768.size a) _ _ y a).trans ?_
  refine (congrArg (fun z => z a * S112x1024x768.size a + _) (tf5 t)).trans ?_
  simp
theorem iblk6 (c : Dev nD) (t : Fin cfg0.N) : iblk m c 6 t = A6 m c := by
  funext (y : S112x1024.Idx)
  refine congrArg (A6 m c) ?_
  funext a; apply Fin.ext
  refine (ValueKit.view_emb_slice_whole_unit_val main_arg6 (fun a => win0_6.index t a * S112x1024.size a) _ _ y a).trans ?_
  refine (congrArg (fun z => z a * S112x1024.size a + _) (tf6 t)).trans ?_
  simp
theorem iblk7 (c : Dev nD) (t : Fin cfg0.N) : iblk m c 7 t = A7 m c := by
  funext (y : S112x768.Idx)
  refine congrArg (A7 m c) ?_
  funext a; apply Fin.ext
  refine (ValueKit.view_emb_slice_whole_unit_val main_arg7 (fun a => win0_7.index t a * S112x768.size a) _ _ y a).trans ?_
  refine (congrArg (fun z => z a * S112x768.size a + _) (tf7 t)).trans ?_
  simp

/-- The three results of device `c`, as functions of its arguments. -/
def res0 (c : Dev nD) : Buf (Elt Ideal) ((c.tc : Thread nD τ).loc main_v0_0) := fun (y : S112x1024x768.Idx) =>
  Spec.dx (A0 m c) (A1 m c) (A3 m c) (A4 m c) (A5 m c) (A6 m c) (A7 m c) (y 0) (y 1) (y 2)
def res1 (c : Dev nD) : Buf (Elt Ideal) ((c.tc : Thread nD τ).loc main_v0_1) := fun (y : S112x3x768.Idx) =>
  Spec.dmod (A0 m c) (A1 m c) (A2 m c) (A3 m c) (A4 m c) (A5 m c) (A6 m c) (y 0) (y 1) (y 2)
def res2 (c : Dev nD) : Buf (Elt Ideal) ((c.tc : Thread nD τ).loc main_v0_2) := fun (y : S112x8x3x768.Idx) =>
  Spec.blk (A0 m c) (A1 m c) (A2 m c) (A3 m c) (A4 m c) (A5 m c) (A6 m c) (y 0) (y 1) (y 2) (y 3)

/-- Where result 0's block puts an index: at itself. -/
theorem embo8 (t : Fin cfg0.N) (y : S112x1024x768.Idx) : (((cfg0.win 8).blk t).view.emb (y : S112x1024x768.Idx) : S112x1024x768.Idx) = y := by
  funext b; apply Fin.ext
  refine (ValueKit.view_emb_slice_whole_unit_val main_v0_0 (fun a => win0_8.index t a * S112x1024x768.size a) _ _ y b).trans ?_
  refine (congrArg (fun z => z b * S112x1024x768.size b + _) (tf8 t)).trans ?_
  simp

/-- What the one point writes back is the result. -/
theorem flushed8 (c : Dev nD) (t : Fin cfg0.N) : (dats m 0 c).flushed 8 t = ((cfg0.win 8).blk t).view.read (Elt Ideal) (res0 m c) := by
  show (cfg0.win 8).cut (grid0.coords t) ((dats m 0 c).after 8 t) = _
  rw [after0_8, iblk0, iblk1, iblk2, iblk3, iblk4, iblk5, iblk6, iblk7]
  funext (y : S112x1024x768.Idx)
  refine Eq.trans ?_ (congrArg (res0 m c) (embo8 t y)).symm
  have e : y = (ix3 (y 0) (y 1) (y 2) : S112x1024x768.Idx) := by
    funext b; fin_cases b
    · rfl
    · rfl
    · rfl
  refine (congrArg (out0_8 (F := Ideal) (A0 m c) (A1 m c) (A2 m c) (A3 m c) (A4 m c) (A5 m c) (A6 m c) (A7 m c)) e).trans ?_
  exact out8_apply _ _ _ _ _ _ _ _ (y 0) (y 1) (y 2)

/-- Every index of result 0 is in the one block. -/
theorem covero8 (y : S112x1024x768.Idx) : ∃ t : Fin cfg0.N, (cfg0.win 8).flush t = true ∧ y ∈ ((cfg0.win 8).blk t).view.set := by
  have hN : cfg0.N = 1 := N_0
  let t : Fin cfg0.N := ⟨0, by omega⟩
  refine ⟨t, flush0_8 _, ?_⟩
  have h := View.emb_mem_set (((cfg0.win 8).blk t).view) (y : S112x1024x768.Idx)
  exact (embo8 t y) ▸ h

/-- Result 0 at the end. -/
theorem final8 (c : Dev nD) : (dats m 0 c).arrAt 8 cfg0.N = res0 m c :=
  (dats m 0 c).arrAt_eq_of_cover 8 (res0 m c) (fun t _ => flushed8 m c t) covero8

/-- Where result 1's block puts an index: at itself. -/
theorem embo9 (t : Fin cfg0.N) (y : S112x3x768.Idx) : (((cfg0.win 9).blk t).view.emb (y : S112x3x768.Idx) : S112x3x768.Idx) = y := by
  funext b; apply Fin.ext
  refine (ValueKit.view_emb_slice_whole_unit_val main_v0_1 (fun a => win0_9.index t a * S112x3x768.size a) _ _ y b).trans ?_
  refine (congrArg (fun z => z b * S112x3x768.size b + _) (tf9 t)).trans ?_
  simp

/-- What the one point writes back is the result. -/
theorem flushed9 (c : Dev nD) (t : Fin cfg0.N) : (dats m 0 c).flushed 9 t = ((cfg0.win 9).blk t).view.read (Elt Ideal) (res1 m c) := by
  show (cfg0.win 9).cut (grid0.coords t) ((dats m 0 c).after 9 t) = _
  rw [after0_9, iblk0, iblk1, iblk2, iblk3, iblk4, iblk5, iblk6, iblk7]
  funext (y : S112x3x768.Idx)
  refine Eq.trans ?_ (congrArg (res1 m c) (embo9 t y)).symm
  have e : y = (ix3 (y 0) (y 1) (y 2) : S112x3x768.Idx) := by
    funext b; fin_cases b
    · rfl
    · rfl
    · rfl
  refine (congrArg (out0_9 (F := Ideal) (A0 m c) (A1 m c) (A2 m c) (A3 m c) (A4 m c) (A5 m c) (A6 m c) (A7 m c)) e).trans ?_
  exact out9_apply _ _ _ _ _ _ _ _ (y 0) (y 1) (y 2)

/-- Every index of result 1 is in the one block. -/
theorem covero9 (y : S112x3x768.Idx) : ∃ t : Fin cfg0.N, (cfg0.win 9).flush t = true ∧ y ∈ ((cfg0.win 9).blk t).view.set := by
  have hN : cfg0.N = 1 := N_0
  let t : Fin cfg0.N := ⟨0, by omega⟩
  refine ⟨t, flush0_9 _, ?_⟩
  have h := View.emb_mem_set (((cfg0.win 9).blk t).view) (y : S112x3x768.Idx)
  exact (embo9 t y) ▸ h

/-- Result 1 at the end. -/
theorem final9 (c : Dev nD) : (dats m 0 c).arrAt 9 cfg0.N = res1 m c :=
  (dats m 0 c).arrAt_eq_of_cover 9 (res1 m c) (fun t _ => flushed9 m c t) covero9

/-- Where result 2's block puts an index: at itself. -/
theorem embo10 (t : Fin cfg0.N) (y : S112x8x3x768.Idx) : (((cfg0.win 10).blk t).view.emb (y : S112x8x3x768.Idx) : S112x8x3x768.Idx) = y := by
  funext b; apply Fin.ext
  refine (ValueKit.view_emb_slice_whole_unit_val main_v0_2 (fun a => win0_10.index t a * S112x8x3x768.size a) _ _ y b).trans ?_
  refine (congrArg (fun z => z b * S112x8x3x768.size b + _) (tf10 t)).trans ?_
  simp

/-- What the one point writes back is the result. -/
theorem flushed10 (c : Dev nD) (t : Fin cfg0.N) : (dats m 0 c).flushed 10 t = ((cfg0.win 10).blk t).view.read (Elt Ideal) (res2 m c) := by
  show (cfg0.win 10).cut (grid0.coords t) ((dats m 0 c).after 10 t) = _
  rw [after0_10, iblk0, iblk1, iblk2, iblk3, iblk4, iblk5, iblk6, iblk7]
  funext (y : S112x8x3x768.Idx)
  refine Eq.trans ?_ (congrArg (res2 m c) (embo10 t y)).symm
  have e : y = (ix4 (y 0) (y 1) (y 2) (y 3) : S112x8x3x768.Idx) := by
    funext b; fin_cases b
    · rfl
    · rfl
    · rfl
    · rfl
  refine (congrArg (out0_10 (F := Ideal) (A0 m c) (A1 m c) (A2 m c) (A3 m c) (A4 m c) (A5 m c) (A6 m c) (A7 m c)) e).trans ?_
  exact out10_apply _ _ _ _ _ _ _ _ (y 0) (y 1) (y 2) (y 3)

/-- Every index of result 2 is in the one block. -/
theorem covero10 (y : S112x8x3x768.Idx) : ∃ t : Fin cfg0.N, (cfg0.win 10).flush t = true ∧ y ∈ ((cfg0.win 10).blk t).view.set := by
  have hN : cfg0.N = 1 := N_0
  let t : Fin cfg0.N := ⟨0, by omega⟩
  refine ⟨t, flush0_10 _, ?_⟩
  have h := View.emb_mem_set (((cfg0.win 10).blk t).view) (y : S112x8x3x768.Idx)
  exact (embo10 t y) ▸ h

/-- Result 2 at the end. -/
theorem final10 (c : Dev nD) : (dats m 0 c).arrAt 10 cfg0.N = res2 m c :=
  (dats m 0 c).arrAt_eq_of_cover 10 (res2 m c) (fun t _ => flushed10 m c t) covero10

/-- The run: the three results at the stated functions of the arguments, the arguments unchanged. -/
theorem run : θ_run defs (onTc (τ := τ) (main (F := Ideal))) ⟨m, fun _ => 0, ρ⟩ fun r => ∀ c : Dev nD,
      r.2.mem ((c.tc : Thread nD τ).loc main_v0_0) = res0 m c ∧ r.2.mem ((c.tc : Thread nD τ).loc main_v0_1) = res1 m c ∧ r.2.mem ((c.tc : Thread nD τ).loc main_v0_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (final8 m c), ((h c).1 9).trans (final9 m c), ((h c).1 10).trans (final10 m c), ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _), ((h c).1 6).trans ((dats m 0 c).arrAt_in 6 rfl _), ((h c).1 7).trans ((dats m 0 c).arrAt_in 7 rfl _)⟩)
    (run_main m ρ)

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.KernelIdealValue
public import proofs.«01_k».proof.Proof.ReferenceIdealValue
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The idealized kernel's named constant is the kernel's printed constant under its name. -/
theorem preserves : preserves_Kernel_KernelIdeal :=
  IdealRules.named_const.statement Cert.KernelIdeal.κ "inv_d" .f32 0x3AAAAAAB#32 _ rfl

/-- The idealized kernel and the idealized reference, from equal arguments, end with equal results: all
    three are the functions of `Spec` of the arguments. -/
theorem algebraic : algebraic_KernelIdeal_ReferenceIdeal := by
  intro m g m' g' _ h
  have res0 : ∀ c, Cert.ReferenceIdeal.Hand.res0 m' c = Cert.KernelIdeal.Hand.res0 m c := by
    intro c
    have e0 : Cert.ReferenceIdeal.Hand.A0 m' c = Cert.KernelIdeal.Hand.A0 m c := (h c).1
    have e1 : Cert.ReferenceIdeal.Hand.A1 m' c = Cert.KernelIdeal.Hand.A1 m c := (h c).2.1
    have e3 : Cert.ReferenceIdeal.Hand.A3 m' c = Cert.KernelIdeal.Hand.A3 m c := (h c).2.2.2.1
    have e4 : Cert.ReferenceIdeal.Hand.A4 m' c = Cert.KernelIdeal.Hand.A4 m c := (h c).2.2.2.2.1
    have e5 : Cert.ReferenceIdeal.Hand.A5 m' c = Cert.KernelIdeal.Hand.A5 m c := (h c).2.2.2.2.2.1
    have e6 : Cert.ReferenceIdeal.Hand.A6 m' c = Cert.KernelIdeal.Hand.A6 m c := (h c).2.2.2.2.2.2.1
    have e7 : Cert.ReferenceIdeal.Hand.A7 m' c = Cert.KernelIdeal.Hand.A7 m c := (h c).2.2.2.2.2.2.2
    unfold Cert.ReferenceIdeal.Hand.res0 Cert.KernelIdeal.Hand.res0
    rw [e0, e1, e3, e4, e5, e6, e7]
  have res1 : ∀ c, Cert.ReferenceIdeal.Hand.res1 m' c = Cert.KernelIdeal.Hand.res1 m c := by
    intro c
    have e0 : Cert.ReferenceIdeal.Hand.A0 m' c = Cert.KernelIdeal.Hand.A0 m c := (h c).1
    have e1 : Cert.ReferenceIdeal.Hand.A1 m' c = Cert.KernelIdeal.Hand.A1 m c := (h c).2.1
    have e2 : Cert.ReferenceIdeal.Hand.A2 m' c = Cert.KernelIdeal.Hand.A2 m c := (h c).2.2.1
    have e3 : Cert.ReferenceIdeal.Hand.A3 m' c = Cert.KernelIdeal.Hand.A3 m c := (h c).2.2.2.1
    have e4 : Cert.ReferenceIdeal.Hand.A4 m' c = Cert.KernelIdeal.Hand.A4 m c := (h c).2.2.2.2.1
    have e5 : Cert.ReferenceIdeal.Hand.A5 m' c = Cert.KernelIdeal.Hand.A5 m c := (h c).2.2.2.2.2.1
    have e6 : Cert.ReferenceIdeal.Hand.A6 m' c = Cert.KernelIdeal.Hand.A6 m c := (h c).2.2.2.2.2.2.1
    unfold Cert.ReferenceIdeal.Hand.res1 Cert.KernelIdeal.Hand.res1
    rw [e0, e1, e2, e3, e4, e5, e6]
  have res2 : ∀ c, Cert.ReferenceIdeal.Hand.res2 m' c = Cert.KernelIdeal.Hand.res2 m c := by
    intro c
    have e0 : Cert.ReferenceIdeal.Hand.A0 m' c = Cert.KernelIdeal.Hand.A0 m c := (h c).1
    have e1 : Cert.ReferenceIdeal.Hand.A1 m' c = Cert.KernelIdeal.Hand.A1 m c := (h c).2.1
    have e2 : Cert.ReferenceIdeal.Hand.A2 m' c = Cert.KernelIdeal.Hand.A2 m c := (h c).2.2.1
    have e3 : Cert.ReferenceIdeal.Hand.A3 m' c = Cert.KernelIdeal.Hand.A3 m c := (h c).2.2.2.1
    have e4 : Cert.ReferenceIdeal.Hand.A4 m' c = Cert.KernelIdeal.Hand.A4 m c := (h c).2.2.2.2.1
    have e5 : Cert.ReferenceIdeal.Hand.A5 m' c = Cert.KernelIdeal.Hand.A5 m c := (h c).2.2.2.2.2.1
    have e6 : Cert.ReferenceIdeal.Hand.A6 m' c = Cert.KernelIdeal.Hand.A6 m c := (h c).2.2.2.2.2.2.1
    unfold Cert.ReferenceIdeal.Hand.res2 Cert.KernelIdeal.Hand.res2
    rw [e0, e1, e2, e3, e4, e5, e6]
  refine ⟨Cert.KernelIdeal.Hand.res0 m, Cert.KernelIdeal.Hand.res1 m, Cert.KernelIdeal.Hand.res2 m, Cert.KernelIdeal.Hand.run m g, ?_⟩
  exact (θ_run Cert.ReferenceIdeal.defs _ _).mono
    (fun _ k c => ⟨(k c).1.trans (res0 c), (k c).2.1.trans (res1 c), (k c).2.2.1.trans (res2 c), (k c).2.2.2⟩)
    (Cert.ReferenceIdeal.Hand.run m' g')

/-- The claim: each program ends quiescent with its arguments unchanged, the idealized kernel is the kernel with
    its constant named, and its three results are the reference's. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, preserves, algebraic⟩

end Cert.Proof

end
